-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  IdealRules.named_const.Statement Cert.KernelIdeal.κ "inv_k" .f32 0x3D2AAAAB#32 ((24⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6_4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x64x64x384 : Shape := ⟨4, ![8, 64, 64, 384]⟩
abbrev S8x24 : Shape := ⟨2, ![8, 24]⟩
abbrev S8x4096x384 : Shape := ⟨3, ![8, 4096, 384]⟩
abbrev S8x20x24x384 : Shape := ⟨4, ![8, 20, 24, 384]⟩
abbrev S8x8x128 : Shape := ⟨3, ![8, 8, 128]⟩
abbrev S8x1x20 : Shape := ⟨3, ![8, 1, 20]⟩
abbrev S8x20 : Shape := ⟨2, ![8, 20]⟩
abbrev S_ : Shape := ⟨0, ![]⟩
abbrev S20 : Shape := ⟨1, ![20]⟩
abbrev S8x1x24x384 : Shape := ⟨4, ![8, 1, 24, 384]⟩
abbrev S8x24x384 : Shape := ⟨3, ![8, 24, 384]⟩
abbrev S2x4096x384 : Shape := ⟨3, ![2, 4096, 384]⟩
abbrev S2x20x24x384 : Shape := ⟨4, ![2, 20, 24, 384]⟩
abbrev S2x8x128 : Shape := ⟨3, ![2, 8, 128]⟩
abbrev S2x384x4096 : Shape := ⟨3, ![2, 384, 4096]⟩
abbrev S1x512x384 : Shape := ⟨3, ![1, 512, 384]⟩
abbrev S512x384 : Shape := ⟨2, ![512, 384]⟩
abbrev S384x512 : Shape := ⟨2, ![384, 512]⟩
abbrev S512 : Shape := ⟨1, ![512]⟩
abbrev S1x512 : Shape := ⟨2, ![1, 512]⟩
abbrev S1x384x512 : Shape := ⟨3, ![1, 384, 512]⟩
abbrev S1x4096 : Shape := ⟨2, ![1, 4096]⟩
abbrev S1x1 : Shape := ⟨2, ![1, 1]⟩
abbrev S1x1x384 : Shape := ⟨3, ![1, 1, 384]⟩
abbrev S1x384 : Shape := ⟨2, ![1, 384]⟩
abbrev S24x384 : Shape := ⟨2, ![24, 384]⟩
abbrev S8x128 : Shape := ⟨2, ![8, 128]⟩
abbrev S24x1024 : Shape := ⟨2, ![24, 1024]⟩
abbrev S24 : Shape := ⟨1, ![24]⟩
abbrev S24x1 : Shape := ⟨2, ![24, 1]⟩
abbrev S1x384x1024 : Shape := ⟨3, ![1, 384, 1024]⟩
abbrev S384x1024 : Shape := ⟨2, ![384, 1024]⟩
abbrev S1x1024 : Shape := ⟨2, ![1, 1024]⟩
abbrev S1024 : Shape := ⟨1, ![1024]⟩
abbrev S24x4096 : Shape := ⟨2, ![24, 4096]⟩
abbrev S1x4096x384 : Shape := ⟨3, ![1, 4096, 384]⟩
abbrev S4096x384 : Shape := ⟨2, ![4096, 384]⟩
abbrev S1x24x384 : Shape := ⟨3, ![1, 24, 384]⟩
abbrev S1 : Shape := ⟨1, ![1]⟩
abbrev S1x1x1 : Shape := ⟨3, ![1, 1, 1]⟩
abbrev S1x1x24x384 : Shape := ⟨4, ![1, 1, 24, 384]⟩
abbrev S1x8x128 : Shape := ⟨3, ![1, 8, 128]⟩

abbrev nBuf : Space → Nat
  | .hbm => 34
  | .vmem => 8
  | .smem => 1
  | _ => 0

abbrev bufTy : (tb : Table) → Fin (tcTables nBuf tb) → BufTy
  | .hbm, ⟨0, _⟩ => ⟨S8x64x64x384, .f32⟩
  | .hbm, ⟨1, _⟩ => ⟨S8x4096x384, .f32⟩
  | .hbm, ⟨2, _⟩ => ⟨S8x20x24x384, .f32⟩
  | .hbm, ⟨3, _⟩ => ⟨S8x8x128, .f32⟩
  | .hbm, ⟨4, _⟩ => ⟨S8x1x20, .f32⟩
  | .hbm, ⟨5, _⟩ => ⟨S8x20, .f32⟩
  | .hbm, ⟨6, _⟩ => ⟨S_, .f32⟩
  | .hbm, ⟨7, _⟩ => ⟨S20, .f32⟩
  | .hbm, ⟨8, _⟩ => ⟨S_, .f32⟩
  | .hbm, ⟨9, _⟩ => ⟨S20, .f32⟩
  | .hbm, ⟨10, _⟩ => ⟨S20, .f32⟩
  | .hbm, ⟨11, _⟩ => ⟨S_, .f32⟩
  | .hbm, ⟨12, _⟩ => ⟨S20, .f32⟩
  | .hbm, ⟨13, _⟩ => ⟨S20, .i1⟩
  | .hbm, ⟨14, _⟩ => ⟨S_, .i1⟩
  | .hbm, ⟨15, _⟩ => ⟨S_, .i1⟩
  | .hbm, ⟨16, _⟩ => ⟨S20, .i32⟩
  | .hbm, ⟨17, _⟩ => ⟨S_, .i1⟩
  | .hbm, ⟨18, _⟩ => ⟨S_, .i32⟩
  | .hbm, ⟨19, _⟩ => ⟨S_, .i1⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i1⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S8x1x24x384, .f32⟩
  | .hbm, ⟨33, _⟩ => ⟨S8x24x384, .f32⟩
  | .local _ .vmem, ⟨0, _⟩ => ⟨S2x4096x384, .f32⟩
  | .local _ .vmem, ⟨1, _⟩ => ⟨S2x4096x384, .f32⟩
  | .local _ .vmem, ⟨2, _⟩ => ⟨S2x20x24x384, .f32⟩
  | .local _ .vmem, ⟨3, _⟩ => ⟨S2x20x24x384, .f32⟩
  | .local _ .vmem, ⟨4, _⟩ => ⟨S2x8x128, .f32⟩
  | .local _ .vmem, ⟨5, _⟩ => ⟨S2x8x128, .f32⟩
  | .local _ .vmem, ⟨6, _⟩ => ⟨S2x384x4096, .bf16⟩
  | .local _ .vmem, ⟨7, _⟩ => ⟨S2x4096x384, .bf16⟩
  | .local _ .smem, ⟨0, _⟩ => ⟨S8x24, .i32⟩
  | _, _ => ⟨S8x64x64x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_v1_0 : Ref sig .tc := ⟨.hbm, 2, rfl⟩
abbrev main_call0_v1_1 : Ref sig .tc := ⟨.hbm, 3, rfl⟩
abbrev main_call0_v2 : Ref sig .tc := ⟨.hbm, 4, rfl⟩
abbrev main_call0_v3 : Ref sig .tc := ⟨.hbm, 5, rfl⟩
abbrev main_call0_cst : Ref sig .tc := ⟨.hbm, 6, rfl⟩
abbrev main_call0_v4 : Ref sig .tc := ⟨.hbm, 7, rfl⟩
abbrev main_call0_cst_0 : Ref sig .tc := ⟨.hbm, 8, rfl⟩
abbrev main_call0_v5 : Ref sig .tc := ⟨.hbm, 9, rfl⟩
abbrev main_call0_v6 : Ref sig .tc := ⟨.hbm, 10, rfl⟩
abbrev main_call0_cst_1 : Ref sig .tc := ⟨.hbm, 11, rfl⟩
abbrev main_call0_v7 : Ref sig .tc := ⟨.hbm, 12, rfl⟩
abbrev main_call0_v8 : Ref sig .tc := ⟨.hbm, 13, rfl⟩
abbrev main_call0_c_2 : Ref sig .tc := ⟨.hbm, 14, rfl⟩
abbrev main_call0_v9 : Ref sig .tc := ⟨.hbm, 15, rfl⟩
abbrev main_call0_call0_v0 : Ref sig .tc := ⟨.hbm, 16, rfl⟩
abbrev main_call0_call0_c : Ref sig .tc := ⟨.hbm, 17, rfl⟩
abbrev main_call0_call0_c_0 : Ref sig .tc := ⟨.hbm, 18, rfl⟩
abbrev main_call0_call0_v1_0 : Ref sig .tc := ⟨.hbm, 19, rfl⟩
abbrev main_call0_v10 : Ref sig .tc := ⟨.hbm, 20, rfl⟩
abbrev main_call0_c_3 : Ref sig .tc := ⟨.hbm, 21, rfl⟩
abbrev main_call0_call1_v0 : Ref sig .tc := ⟨.hbm, 22, rfl⟩
abbrev main_call0_v11 : Ref sig .tc := ⟨.hbm, 23, rfl⟩
abbrev main_call0_call2_c : Ref sig .tc := ⟨.hbm, 24, rfl⟩
abbrev main_call0_call2_v0 : Ref sig .tc := ⟨.hbm, 25, rfl⟩
abbrev main_call0_call2_c_0 : Ref sig .tc := ⟨.hbm, 26, rfl⟩
abbrev main_call0_call2_v1 : Ref sig .tc := ⟨.hbm, 27, rfl⟩
abbrev main_call0_call2_v2 : Ref sig .tc := ⟨.hbm, 28, rfl⟩
abbrev main_call0_call2_c_1 : Ref sig .tc := ⟨.hbm, 29, rfl⟩
abbrev main_call0_call2_c_2 : Ref sig .tc := ⟨.hbm, 30, rfl⟩
abbrev main_call0_call2_c_3 : Ref sig .tc := ⟨.hbm, 31, rfl⟩
abbrev main_call0_call2_v3 : Ref sig .tc := ⟨.hbm, 32, rfl⟩
abbrev main_v0 : Ref sig .tc := ⟨.hbm, 33, rfl⟩
abbrev main_call0_c : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_call0_c.idx], fun | 0 => main_call0_c.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 2 → Nat :=
  let arg0 : BitVec 32 := BitVec.ofNat 32 (i 0).val
  let c2_i32 : BitVec 32 := 2#32
  let v113 : BitVec 32 := Scalar.muli arg0 c2_i32
  let c0_i32 : BitVec 32 := 0#32
  let v114 : BitVec 32 := Scalar.addi v113 c0_i32
  let v115 : Index := Scalar.indexCast v114
  let c0_71 : Index := 0#32
  ![v115.toNat, 0]
def k0_off2 (v116 : BitVec 32) : Fin 3 → Nat :=
  let c0_72 : Index := 0#32
  let v117 : Index := Scalar.indexCast v116
  let c0_73 : Index := 0#32
  ![0, v117.toNat, 0]

def k0_chk1 (v116 : BitVec 32) : Prop :=
  (∀ a, (k0_off2 v116) a + S1x1x384.size a ≤ S2x4096x384.size a)
theorem k0_off2_inb : ∀ (v116 : BitVec 32) (k0_hw1 : k0_chk1 v116), ∀ a, (k0_off2 v116) a + S1x1x384.size a ≤ S2x4096x384.size a := fun v116 k0_hw1 => k0_hw1

def k0_off3 (i : grid0.Coords) : Fin 2 → Nat :=
  let arg0 : BitVec 32 := BitVec.ofNat 32 (i 0).val
  let c2_i32 : BitVec 32 := 2#32
  let v113 : BitVec 32 := Scalar.muli arg0 c2_i32
  let c0_i32 : BitVec 32 := 0#32
  let v114 : BitVec 32 := Scalar.addi v113 c0_i32
  let v120 : Index := Scalar.indexCast v114
  let c1 : Index := 1#32
  ![v120.toNat, 1]
def k0_off4 (v121 : BitVec 32) : Fin 3 → Nat :=
  let c0_74 : Index := 0#32
  let v122 : Index := Scalar.indexCast v121
  let c0_75 : Index := 0#32
  ![0, v122.toNat, 0]

def k0_chk2 (v121 : BitVec 32) : Prop :=
  (∀ a, (k0_off4 v121) a + S1x1x384.size a ≤ S2x4096x384.size a)
theorem k0_off4_inb : ∀ (v121 : BitVec 32) (k0_hw2 : k0_chk2 v121), ∀ a, (k0_off4 v121) a + S1x1x384.size a ≤ S2x4096x384.size a := fun v121 k0_hw2 => k0_hw2

def k0_off5 (i : grid0.Coords) : Fin 2 → Nat :=
  let arg0 : BitVec 32 := BitVec.ofNat 32 (i 0).val
  let c2_i32 : BitVec 32 := 2#32
  let v113 : BitVec 32 := Scalar.muli arg0 c2_i32
  let c0_i32 : BitVec 32 := 0#32
  let v114 : BitVec 32 := Scalar.addi v113 c0_i32
  let v125 : Index := Scalar.indexCast v114
  let c2 : Index := 2#32
  ![v125.toNat, 2]
def k0_off6 (v126 : BitVec 32) : Fin 3 → Nat :=
  let c0_76 : Index := 0#32
  let v127 : Index := Scalar.indexCast v126
  let c0_77 : Index := 0#32
  ![0, v127.toNat, 0]

def k0_chk3 (v126 : BitVec 32) : Prop :=
  (∀ a, (k0_off6 v126) a + S1x1x384.size a ≤ S2x4096x384.size a)
theorem k0_off6_inb : ∀ (v126 : BitVec 32) (k0_hw3 : k0_chk3 v126), ∀ a, (k0_off6 v126) a + S1x1x384.size a ≤ S2x4096x384.size a := fun v126 k0_hw3 => k0_hw3

def k0_off7 (i : grid0.Coords) : Fin 2 → Nat :=
  let arg0 : BitVec 32 := BitVec.ofNat 32 (i 0).val
  let c2_i32 : BitVec 32 := 2#32
  let v113 : BitVec 32 := Scalar.muli arg0 c2_i32
  let c0_i32 : BitVec 32 := 0#32
  let v114 : BitVec 32 := Scalar.addi v113 c0_i32
  let v130 : Index := Scalar.indexCast v114
  let c3 : Index := 3#32
  ![v130.toNat, 3]
def k0_off8 (v131 : BitVec 32) : Fin 3 → Nat :=
  let c0_78 : Index := 0#32
  let v132 : Index := Scalar.indexCast v131
  let c0_79 : Index := 0#32
  ![0, v132.toNat, 0]

def k0_chk4 (v131 : BitVec 32) : Prop :=
  (∀ a, (k0_off8 v131) a + S1x1x384.size a ≤ S2x4096x384.size a)
theorem k0_off8_inb : ∀ (v131 : BitVec 32) (k0_hw4 : k0_chk4 v131), ∀ a, (k0_off8 v131) a + S1x1x384.size a ≤ S2x4096x384.size a := fun v131 k0_hw4 => k0_hw4

def k0_off9 (i : grid0.Coords) : Fin 2 → Nat :=
  let arg0 : BitVec 32 := BitVec.ofNat 32 (i 0).val
  let c2_i32 : BitVec 32 := 2#32
  let v113 : BitVec 32 := Scalar.muli arg0 c2_i32
  let c0_i32 : BitVec 32 := 0#32
  let v114 : BitVec 32 := Scalar.addi v113 c0_i32
  let v135 : Index := Scalar.indexCast v114
  let c4 : Index := 4#32
  ![v135.toNat, 4]
def k0_off10 (v136 : BitVec 32) : Fin 3 → Nat :=
  let c0_80 : Index := 0#32
  let v137 : Index := Scalar.indexCast v136
  let c0_81 : Index := 0#32
  ![0, v137.toNat, 0]

def k0_chk5 (v136 : BitVec 32) : Prop :=
  (∀ a, (k0_off10 v136) a + S1x1x384.size a ≤ S2x4096x384.size a)
theorem k0_off10_inb : ∀ (v136 : BitVec 32) (k0_hw5 : k0_chk5 v136), ∀ a, (k0_off10 v136) a + S1x1x384.size a ≤ S2x4096x384.size a := fun v136 k0_hw5 => k0_hw5

def k0_off11 (i : grid0.Coords) : Fin 2 → Nat :=
  let arg0 : BitVec 32 := BitVec.ofNat 32 (i 0).val
  let c2_i32 : BitVec 32 := 2#32
  let v113 : BitVec 32 := Scalar.muli arg0 c2_i32
  let c0_i32 : BitVec 32 := 0#32
  let v114 : BitVec 32 := Scalar.addi v113 c0_i32
  let v140 : Index := Scalar.indexCast v114
  let c5 : Index := 5#32
  ![v140.toNat, 5]
def k0_off12 (v141 : BitVec 32) : Fin 3 → Nat :=
  let c0_82 : Index := 0#32
  let v142 : Index := Scalar.indexCast v141
  let c0_83 : Index := 0#32
  ![0, v142.toNat, 0]

def k0_chk6 (v141 : BitVec 32) : Prop :=
  (∀ a, (k0_off12 v141) a + S1x1x384.size a ≤ S2x4096x384.size a)
theorem k0_off12_inb : ∀ (v141 : BitVec 32) (k0_hw6 : k0_chk6 v141), ∀ a, (k0_off12 v141) a + S1x1x384.size a ≤ S2x4096x384.size a := fun v141 k0_hw6 => k0_hw6

def k0_off13 (i : grid0.Coords) : Fin 2 → Nat :=
  let arg0 : BitVec 32 := BitVec.ofNat 32 (i 0).val
  let c2_i32 : BitVec 32 := 2#32
  let v113 : BitVec 32 := Scalar.muli arg0 c2_i32
  let c0_i32 : BitVec 32 := 0#32
  let v114 : BitVec 32 := Scalar.addi v113 c0_i32
  let v145 : Index := Scalar.indexCast v114
  let c6 : Index := 6#32
  ![v145.toNat, 6]
def k0_off14 (v146 : BitVec 32) : Fin 3 → Nat :=
  let c0_84 : Index := 0#32
  let v147 : Index := Scalar.indexCast v146
  let c0_85 : Index := 0#32
  ![0, v147.toNat, 0]

def k0_chk7 (v146 : BitVec 32) : Prop :=
  (∀ a, (k0_off14 v146) a + S1x1x384.size a ≤ S2x4096x384.size a)
theorem k0_off14_inb : ∀ (v146 : BitVec 32) (k0_hw7 : k0_chk7 v146), ∀ a, (k0_off14 v146) a + S1x1x384.size a ≤ S2x4096x384.size a := fun v146 k0_hw7 => k0_hw7

def k0_off15 (i : grid0.Coords) : Fin 2 → Nat :=
  let arg0 : BitVec 32 := BitVec.ofNat 32 (i 0).val
  let c2_i32 : BitVec 32 := 2#32
  let v113 : BitVec 32 := Scalar.muli arg0 c2_i32
  let c0_i32 : BitVec 32 := 0#32
  let v114 : BitVec 32 := Scalar.addi v113 c0_i32
  let v150 : Index := Scalar.indexCast v114
  let c7 : Index := 7#32
  ![v150.toNat, 7]
def k0_off16 (v151 : BitVec 32) : Fin 3 → Nat :=
  let c0_86 : Index := 0#32
  let v152 : Index := Scalar.indexCast v151
  let c0_87 : Index := 0#32
  ![0, v152.toNat, 0]

def k0_chk8 (v151 : BitVec 32) : Prop :=
  (∀ a, (k0_off16 v151) a + S1x1x384.size a ≤ S2x4096x384.size a)
theorem k0_off16_inb : ∀ (v151 : BitVec 32) (k0_hw8 : k0_chk8 v151), ∀ a, (k0_off16 v151) a + S1x1x384.size a ≤ S2x4096x384.size a := fun v151 k0_hw8 => k0_hw8

def k0_off17 (i : grid0.Coords) : Fin 2 → Nat :=
  let arg0 : BitVec 32 := BitVec.ofNat 32 (i 0).val
  let c2_i32 : BitVec 32 := 2#32
  let v113 : BitVec 32 := Scalar.muli arg0 c2_i32
  let c0_i32 : BitVec 32 := 0#32
  let v114 : BitVec 32 := Scalar.addi v113 c0_i32
  let v155 : Index := Scalar.indexCast v114
  let c8 : Index := 8#32
  ![v155.toNat, 8]
def k0_off18 (v156 : BitVec 32) : Fin 3 → Nat :=
  let c0_88 : Index := 0#32
  let v157 : Index := Scalar.indexCast v156
  let c0_89 : Index := 0#32
  ![0, v157.toNat, 0]

def k0_chk9 (v156 : BitVec 32) : Prop :=
  (∀ a, (k0_off18 v156) a + S1x1x384.size a ≤ S2x4096x384.size a)
theorem k0_off18_inb : ∀ (v156 : BitVec 32) (k0_hw9 : k0_chk9 v156), ∀ a, (k0_off18 v156) a + S1x1x384.size a ≤ S2x4096x384.size a := fun v156 k0_hw9 => k0_hw9

def k0_off19 (i : grid0.Coords) : Fin 2 → Nat :=
  let arg0 : BitVec 32 := BitVec.ofNat 32 (i 0).val
  let c2_i32 : BitVec 32 := 2#32
  let v113 : BitVec 32 := Scalar.muli arg0 c2_i32
  let c0_i32 : BitVec 32 := 0#32
  let v114 : BitVec 32 := Scalar.addi v113 c0_i32
  let v160 : Index := Scalar.indexCast v114
  let c9 : Index := 9#32
  ![v160.toNat, 9]
def k0_off20 (v161 : BitVec 32) : Fin 3 → Nat :=
  let c0_90 : Index := 0#32
  let v162 : Index := Scalar.indexCast v161
  let c0_91 : Index := 0#32
  ![0, v162.toNat, 0]

def k0_chk10 (v161 : BitVec 32) : Prop :=
  (∀ a, (k0_off20 v161) a + S1x1x384.size a ≤ S2x4096x384.size a)
theorem k0_off20_inb : ∀ (v161 : BitVec 32) (k0_hw10 : k0_chk10 v161), ∀ a, (k0_off20 v161) a + S1x1x384.size a ≤ S2x4096x384.size a := fun v161 k0_hw10 => k0_hw10

def k0_off21 (i : grid0.Coords) : Fin 2 → Nat :=
  let arg0 : BitVec 32 := BitVec.ofNat 32 (i 0).val
  let c2_i32 : BitVec 32 := 2#32
  let v113 : BitVec 32 := Scalar.muli arg0 c2_i32
  let c0_i32 : BitVec 32 := 0#32
  let v114 : BitVec 32 := Scalar.addi v113 c0_i32
  let v165 : Index := Scalar.indexCast v114
  let c10 : Index := 10#32
  ![v165.toNat, 10]
def k0_off22 (v166 : BitVec 32) : Fin 3 → Nat :=
  let c0_92 : Index := 0#32
  let v167 : Index := Scalar.indexCast v166
  let c0_93 : Index := 0#32
  ![0, v167.toNat, 0]

def k0_chk11 (v166 : BitVec 32) : Prop :=
  (∀ a, (k0_off22 v166) a + S1x1x384.size a ≤ S2x4096x384.size a)
theorem k0_off22_inb : ∀ (v166 : BitVec 32) (k0_hw11 : k0_chk11 v166), ∀ a, (k0_off22 v166) a + S1x1x384.size a ≤ S2x4096x384.size a := fun v166 k0_hw11 => k0_hw11

def k0_off23 (i : grid0.Coords) : Fin 2 → Nat :=
  let arg0 : BitVec 32 := BitVec.ofNat 32 (i 0).val
  let c2_i32 : BitVec 32 := 2#32
  let v113 : BitVec 32 := Scalar.muli arg0 c2_i32
  let c0_i32 : BitVec 32 := 0#32
  let v114 : BitVec 32 := Scalar.addi v113 c0_i32
  let v170 : Index := Scalar.indexCast v114
  let c11 : Index := 11#32
  ![v170.toNat, 11]
def k0_off24 (v171 : BitVec 32) : Fin 3 → Nat :=
  let c0_94 : Index := 0#32
  let v172 : Index := Scalar.indexCast v171
  let c0_95 : Index := 0#32
  ![0, v172.toNat, 0]

def k0_chk12 (v171 : BitVec 32) : Prop :=
  (∀ a, (k0_off24 v171) a + S1x1x384.size a ≤ S2x4096x384.size a)
theorem k0_off24_inb : ∀ (v171 : BitVec 32) (k0_hw12 : k0_chk12 v171), ∀ a, (k0_off24 v171) a + S1x1x384.size a ≤ S2x4096x384.size a := fun v171 k0_hw12 => k0_hw12

def k0_off25 (i : grid0.Coords) : Fin 2 → Nat :=
  let arg0 : BitVec 32 := BitVec.ofNat 32 (i 0).val
  let c2_i32 : BitVec 32 := 2#32
  let v113 : BitVec 32 := Scalar.muli arg0 c2_i32
  let c0_i32 : BitVec 32 := 0#32
  let v114 : BitVec 32 := Scalar.addi v113 c0_i32
  let v175 : Index := Scalar.indexCast v114
  let c12 : Index := 12#32
  ![v175.toNat, 12]
def k0_off26 (v176 : BitVec 32) : Fin 3 → Nat :=
  let c0_96 : Index := 0#32
  let v177 : Index := Scalar.indexCast v176
  let c0_97 : Index := 0#32
  ![0, v177.toNat, 0]

def k0_chk13 (v176 : BitVec 32) : Prop :=
  (∀ a, (k0_off26 v176) a + S1x1x384.size a ≤ S2x4096x384.size a)
theorem k0_off26_inb : ∀ (v176 : BitVec 32) (k0_hw13 : k0_chk13 v176), ∀ a, (k0_off26 v176) a + S1x1x384.size a ≤ S2x4096x384.size a := fun v176 k0_hw13 => k0_hw13

def k0_off27 (i : grid0.Coords) : Fin 2 → Nat :=
  let arg0 : BitVec 32 := BitVec.ofNat 32 (i 0).val
  let c2_i32 : BitVec 32 := 2#32
  let v113 : BitVec 32 := Scalar.muli arg0 c2_i32
  let c0_i32 : BitVec 32 := 0#32
  let v114 : BitVec 32 := Scalar.addi v113 c0_i32
  let v180 : Index := Scalar.indexCast v114
  let c13 : Index := 13#32
  ![v180.toNat, 13]
def k0_off28 (v181 : BitVec 32) : Fin 3 → Nat :=
  let c0_98 : Index := 0#32
  let v182 : Index := Scalar.indexCast v181
  let c0_99 : Index := 0#32
  ![0, v182.toNat, 0]

def k0_chk14 (v181 : BitVec 32) : Prop :=
  (∀ a, (k0_off28 v181) a + S1x1x384.size a ≤ S2x4096x384.size a)
theorem k0_off28_inb : ∀ (v181 : BitVec 32) (k0_hw14 : k0_chk14 v181), ∀ a, (k0_off28 v181) a + S1x1x384.size a ≤ S2x4096x384.size a := fun v181 k0_hw14 => k0_hw14

def k0_off29 (i : grid0.Coords) : Fin 2 → Nat :=
  let arg0 : BitVec 32 := BitVec.ofNat 32 (i 0).val
  let c2_i32 : BitVec 32 := 2#32
  let v113 : BitVec 32 := Scalar.muli arg0 c2_i32
  let c0_i32 : BitVec 32 := 0#32
  let v114 : BitVec 32 := Scalar.addi v113 c0_i32
  let v185 : Index := Scalar.indexCast v114
  let c14 : Index := 14#32
  ![v185.toNat, 14]
def k0_off30 (v186 : BitVec 32) : Fin 3 → Nat :=
  let c0_100 : Index := 0#32
  let v187 : Index := Scalar.indexCast v186
  let c0_101 : Index := 0#32
  ![0, v187.toNat, 0]

def k0_chk15 (v186 : BitVec 32) : Prop :=
  (∀ a, (k0_off30 v186) a + S1x1x384.size a ≤ S2x4096x384.size a)
theorem k0_off30_inb : ∀ (v186 : BitVec 32) (k0_hw15 : k0_chk15 v186), ∀ a, (k0_off30 v186) a + S1x1x384.size a ≤ S2x4096x384.size a := fun v186 k0_hw15 => k0_hw15

def k0_off31 (i : grid0.Coords) : Fin 2 → Nat :=
  let arg0 : BitVec 32 := BitVec.ofNat 32 (i 0).val
  let c2_i32 : BitVec 32 := 2#32
  let v113 : BitVec 32 := Scalar.muli arg0 c2_i32
  let c0_i32 : BitVec 32 := 0#32
  let v114 : BitVec 32 := Scalar.addi v113 c0_i32
  let v190 : Index := Scalar.indexCast v114
  let c15 : Index := 15#32
  ![v190.toNat, 15]
def k0_off32 (v191 : BitVec 32) : Fin 3 → Nat :=
  let c0_102 : Index := 0#32
  let v192 : Index := Scalar.indexCast v191
  let c0_103 : Index := 0#32
  ![0, v192.toNat, 0]

def k0_chk16 (v191 : BitVec 32) : Prop :=
  (∀ a, (k0_off32 v191) a + S1x1x384.size a ≤ S2x4096x384.size a)
theorem k0_off32_inb : ∀ (v191 : BitVec 32) (k0_hw16 : k0_chk16 v191), ∀ a, (k0_off32 v191) a + S1x1x384.size a ≤ S2x4096x384.size a := fun v191 k0_hw16 => k0_hw16

def k0_off33 (i : grid0.Coords) : Fin 2 → Nat :=
  let arg0 : BitVec 32 := BitVec.ofNat 32 (i 0).val
  let c2_i32 : BitVec 32 := 2#32
  let v113 : BitVec 32 := Scalar.muli arg0 c2_i32
  let c0_i32 : BitVec 32 := 0#32
  let v114 : BitVec 32 := Scalar.addi v113 c0_i32
  let v195 : Index := Scalar.indexCast v114
  let c16 : Index := 16#32
  ![v195.toNat, 16]
def k0_off34 (v196 : BitVec 32) : Fin 3 → Nat :=
  let c0_104 : Index := 0#32
  let v197 : Index := Scalar.indexCast v196
  let c0_105 : Index := 0#32
  ![0, v197.toNat, 0]

def k0_chk17 (v196 : BitVec 32) : Prop :=
  (∀ a, (k0_off34 v196) a + S1x1x384.size a ≤ S2x4096x384.size a)
theorem k0_off34_inb : ∀ (v196 : BitVec 32) (k0_hw17 : k0_chk17 v196), ∀ a, (k0_off34 v196) a + S1x1x384.size a ≤ S2x4096x384.size a := fun v196 k0_hw17 => k0_hw17

def k0_off35 (i : grid0.Coords) : Fin 2 → Nat :=
  let arg0 : BitVec 32 := BitVec.ofNat 32 (i 0).val
  let c2_i32 : BitVec 32 := 2#32
  let v113 : BitVec 32 := Scalar.muli arg0 c2_i32
  let c0_i32 : BitVec 32 := 0#32
  let v114 : BitVec 32 := Scalar.addi v113 c0_i32
  let v200 : Index := Scalar.indexCast v114
  let c17 : Index := 17#32
  ![v200.toNat, 17]
def k0_off36 (v201 : BitVec 32) : Fin 3 → Nat :=
  let c0_106 : Index := 0#32
  let v202 : Index := Scalar.indexCast v201
  let c0_107 : Index := 0#32
  ![0, v202.toNat, 0]

def k0_chk18 (v201 : BitVec 32) : Prop :=
  (∀ a, (k0_off36 v201) a + S1x1x384.size a ≤ S2x4096x384.size a)
theorem k0_off36_inb : ∀ (v201 : BitVec 32) (k0_hw18 : k0_chk18 v201), ∀ a, (k0_off36 v201) a + S1x1x384.size a ≤ S2x4096x384.size a := fun v201 k0_hw18 => k0_hw18

def k0_off37 (i : grid0.Coords) : Fin 2 → Nat :=
  let arg0 : BitVec 32 := BitVec.ofNat 32 (i 0).val
  let c2_i32 : BitVec 32 := 2#32
  let v113 : BitVec 32 := Scalar.muli arg0 c2_i32
  let c0_i32 : BitVec 32 := 0#32
  let v114 : BitVec 32 := Scalar.addi v113 c0_i32
  let v205 : Index := Scalar.indexCast v114
  let c18 : Index := 18#32
  ![v205.toNat, 18]
def k0_off38 (v206 : BitVec 32) : Fin 3 → Nat :=
  let c0_108 : Index := 0#32
  let v207 : Index := Scalar.indexCast v206
  let c0_109 : Index := 0#32
  ![0, v207.toNat, 0]

def k0_chk19 (v206 : BitVec 32) : Prop :=
  (∀ a, (k0_off38 v206) a + S1x1x384.size a ≤ S2x4096x384.size a)
theorem k0_off38_inb : ∀ (v206 : BitVec 32) (k0_hw19 : k0_chk19 v206), ∀ a, (k0_off38 v206) a + S1x1x384.size a ≤ S2x4096x384.size a := fun v206 k0_hw19 => k0_hw19

def k0_off39 (i : grid0.Coords) : Fin 2 → Nat :=
  let arg0 : BitVec 32 := BitVec.ofNat 32 (i 0).val
  let c2_i32 : BitVec 32 := 2#32
  let v113 : BitVec 32 := Scalar.muli arg0 c2_i32
  let c0_i32 : BitVec 32 := 0#32
  let v114 : BitVec 32 := Scalar.addi v113 c0_i32
  let v210 : Index := Scalar.indexCast v114
  let c19 : Index := 19#32
  ![v210.toNat, 19]
def k0_off40 (v211 : BitVec 32) : Fin 3 → Nat :=
  let c0_110 : Index := 0#32
  let v212 : Index := Scalar.indexCast v211
  let c0_111 : Index := 0#32
  ![0, v212.toNat, 0]

def k0_chk20 (v211 : BitVec 32) : Prop :=
  (∀ a, (k0_off40 v211) a + S1x1x384.size a ≤ S2x4096x384.size a)
theorem k0_off40_inb : ∀ (v211 : BitVec 32) (k0_hw20 : k0_chk20 v211), ∀ a, (k0_off40 v211) a + S1x1x384.size a ≤ S2x4096x384.size a := fun v211 k0_hw20 => k0_hw20

def k0_off41 (i : grid0.Coords) : Fin 2 → Nat :=
  let arg0 : BitVec 32 := BitVec.ofNat 32 (i 0).val
  let c2_i32 : BitVec 32 := 2#32
  let v113 : BitVec 32 := Scalar.muli arg0 c2_i32
  let c0_i32 : BitVec 32 := 0#32
  let v114 : BitVec 32 := Scalar.addi v113 c0_i32
  let v215 : Index := Scalar.indexCast v114
  let c20 : Index := 20#32
  ![v215.toNat, 20]
def k0_off42 (v216 : BitVec 32) : Fin 3 → Nat :=
  let c0_112 : Index := 0#32
  let v217 : Index := Scalar.indexCast v216
  let c0_113 : Index := 0#32
  ![0, v217.toNat, 0]

def k0_chk21 (v216 : BitVec 32) : Prop :=
  (∀ a, (k0_off42 v216) a + S1x1x384.size a ≤ S2x4096x384.size a)
theorem k0_off42_inb : ∀ (v216 : BitVec 32) (k0_hw21 : k0_chk21 v216), ∀ a, (k0_off42 v216) a + S1x1x384.size a ≤ S2x4096x384.size a := fun v216 k0_hw21 => k0_hw21

def k0_off43 (i : grid0.Coords) : Fin 2 → Nat :=
  let arg0 : BitVec 32 := BitVec.ofNat 32 (i 0).val
  let c2_i32 : BitVec 32 := 2#32
  let v113 : BitVec 32 := Scalar.muli arg0 c2_i32
  let c0_i32 : BitVec 32 := 0#32
  let v114 : BitVec 32 := Scalar.addi v113 c0_i32
  let v220 : Index := Scalar.indexCast v114
  let c21 : Index := 21#32
  ![v220.toNat, 21]
def k0_off44 (v221 : BitVec 32) : Fin 3 → Nat :=
  let c0_114 : Index := 0#32
  let v222 : Index := Scalar.indexCast v221
  let c0_115 : Index := 0#32
  ![0, v222.toNat, 0]

def k0_chk22 (v221 : BitVec 32) : Prop :=
  (∀ a, (k0_off44 v221) a + S1x1x384.size a ≤ S2x4096x384.size a)
theorem k0_off44_inb : ∀ (v221 : BitVec 32) (k0_hw22 : k0_chk22 v221), ∀ a, (k0_off44 v221) a + S1x1x384.size a ≤ S2x4096x384.size a := fun v221 k0_hw22 => k0_hw22

def k0_off45 (i : grid0.Coords) : Fin 2 → Nat :=
  let arg0 : BitVec 32 := BitVec.ofNat 32 (i 0).val
  let c2_i32 : BitVec 32 := 2#32
  let v113 : BitVec 32 := Scalar.muli arg0 c2_i32
  let c0_i32 : BitVec 32 := 0#32
  let v114 : BitVec 32 := Scalar.addi v113 c0_i32
  let v225 : Index := Scalar.indexCast v114
  let c22 : Index := 22#32
  ![v225.toNat, 22]
def k0_off46 (v226 : BitVec 32) : Fin 3 → Nat :=
  let c0_116 : Index := 0#32
  let v227 : Index := Scalar.indexCast v226
  let c0_117 : Index := 0#32
  ![0, v227.toNat, 0]

def k0_chk23 (v226 : BitVec 32) : Prop :=
  (∀ a, (k0_off46 v226) a + S1x1x384.size a ≤ S2x4096x384.size a)
theorem k0_off46_inb : ∀ (v226 : BitVec 32) (k0_hw23 : k0_chk23 v226), ∀ a, (k0_off46 v226) a + S1x1x384.size a ≤ S2x4096x384.size a := fun v226 k0_hw23 => k0_hw23

def k0_off47 (i : grid0.Coords) : Fin 2 → Nat :=
  let arg0 : BitVec 32 := BitVec.ofNat 32 (i 0).val
  let c2_i32 : BitVec 32 := 2#32
  let v113 : BitVec 32 := Scalar.muli arg0 c2_i32
  let c0_i32 : BitVec 32 := 0#32
  let v114 : BitVec 32 := Scalar.addi v113 c0_i32
  let v230 : Index := Scalar.indexCast v114
  let c23 : Index := 23#32
  ![v230.toNat, 23]
def k0_off48 (v231 : BitVec 32) : Fin 3 → Nat :=
  let c0_118 : Index := 0#32
  let v232 : Index := Scalar.indexCast v231
  let c0_119 : Index := 0#32
  ![0, v232.toNat, 0]

def k0_chk24 (v231 : BitVec 32) : Prop :=
  (∀ a, (k0_off48 v231) a + S1x1x384.size a ≤ S2x4096x384.size a)
theorem k0_off48_inb : ∀ (v231 : BitVec 32) (k0_hw24 : k0_chk24 v231), ∀ a, (k0_off48 v231) a + S1x1x384.size a ≤ S2x4096x384.size a := fun v231 k0_hw24 => k0_hw24

def k0_off49 (i : grid0.Coords) : Fin 2 → Nat :=
  let arg0 : BitVec 32 := BitVec.ofNat 32 (i 0).val
  let c2_i32_200 : BitVec 32 := 2#32
  let v349 : BitVec 32 := Scalar.muli arg0 c2_i32_200
  let c1_i32 : BitVec 32 := 1#32
  let v350 : BitVec 32 := Scalar.addi v349 c1_i32
  let v351 : Index := Scalar.indexCast v350
  let c0_201 : Index := 0#32
  ![v351.toNat, 0]
def k0_off50 (v352 : BitVec 32) : Fin 3 → Nat :=
  let c1_202 : Index := 1#32
  let v353 : Index := Scalar.indexCast v352
  let c0_203 : Index := 0#32
  ![1, v353.toNat, 0]

def k0_chk25 (v352 : BitVec 32) : Prop :=
  (∀ a, (k0_off50 v352) a + S1x1x384.size a ≤ S2x4096x384.size a)
theorem k0_off50_inb : ∀ (v352 : BitVec 32) (k0_hw25 : k0_chk25 v352), ∀ a, (k0_off50 v352) a + S1x1x384.size a ≤ S2x4096x384.size a := fun v352 k0_hw25 => k0_hw25

def k0_off51 (i : grid0.Coords) : Fin 2 → Nat :=
  let arg0 : BitVec 32 := BitVec.ofNat 32 (i 0).val
  let c2_i32_200 : BitVec 32 := 2#32
  let v349 : BitVec 32 := Scalar.muli arg0 c2_i32_200
  let c1_i32 : BitVec 32 := 1#32
  let v350 : BitVec 32 := Scalar.addi v349 c1_i32
  let v356 : Index := Scalar.indexCast v350
  let c1_204 : Index := 1#32
  ![v356.toNat, 1]
def k0_off52 (v357 : BitVec 32) : Fin 3 → Nat :=
  let c1_205 : Index := 1#32
  let v358 : Index := Scalar.indexCast v357
  let c0_206 : Index := 0#32
  ![1, v358.toNat, 0]

def k0_chk26 (v357 : BitVec 32) : Prop :=
  (∀ a, (k0_off52 v357) a + S1x1x384.size a ≤ S2x4096x384.size a)
theorem k0_off52_inb : ∀ (v357 : BitVec 32) (k0_hw26 : k0_chk26 v357), ∀ a, (k0_off52 v357) a + S1x1x384.size a ≤ S2x4096x384.size a := fun v357 k0_hw26 => k0_hw26

def k0_off53 (i : grid0.Coords) : Fin 2 → Nat :=
  let arg0 : BitVec 32 := BitVec.ofNat 32 (i 0).val
  let c2_i32_200 : BitVec 32 := 2#32
  let v349 : BitVec 32 := Scalar.muli arg0 c2_i32_200
  let c1_i32 : BitVec 32 := 1#32
  let v350 : BitVec 32 := Scalar.addi v349 c1_i32
  let v361 : Index := Scalar.indexCast v350
  let c2_207 : Index := 2#32
  ![v361.toNat, 2]
def k0_off54 (v362 : BitVec 32) : Fin 3 → Nat :=
  let c1_208 : Index := 1#32
  let v363 : Index := Scalar.indexCast v362
  let c0_209 : Index := 0#32
  ![1, v363.toNat, 0]

def k0_chk27 (v362 : BitVec 32) : Prop :=
  (∀ a, (k0_off54 v362) a + S1x1x384.size a ≤ S2x4096x384.size a)
theorem k0_off54_inb : ∀ (v362 : BitVec 32) (k0_hw27 : k0_chk27 v362), ∀ a, (k0_off54 v362) a + S1x1x384.size a ≤ S2x4096x384.size a := fun v362 k0_hw27 => k0_hw27

def k0_off55 (i : grid0.Coords) : Fin 2 → Nat :=
  let arg0 : BitVec 32 := BitVec.ofNat 32 (i 0).val
  let c2_i32_200 : BitVec 32 := 2#32
  let v349 : BitVec 32 := Scalar.muli arg0 c2_i32_200
  let c1_i32 : BitVec 32 := 1#32
  let v350 : BitVec 32 := Scalar.addi v349 c1_i32
  let v366 : Index := Scalar.indexCast v350
  let c3_210 : Index := 3#32
  ![v366.toNat, 3]
def k0_off56 (v367 : BitVec 32) : Fin 3 → Nat :=
  let c1_211 : Index := 1#32
  let v368 : Index := Scalar.indexCast v367
  let c0_212 : Index := 0#32
  ![1, v368.toNat, 0]

def k0_chk28 (v367 : BitVec 32) : Prop :=
  (∀ a, (k0_off56 v367) a + S1x1x384.size a ≤ S2x4096x384.size a)
theorem k0_off56_inb : ∀ (v367 : BitVec 32) (k0_hw28 : k0_chk28 v367), ∀ a, (k0_off56 v367) a + S1x1x384.size a ≤ S2x4096x384.size a := fun v367 k0_hw28 => k0_hw28

def k0_off57 (i : grid0.Coords) : Fin 2 → Nat :=
  let arg0 : BitVec 32 := BitVec.ofNat 32 (i 0).val
  let c2_i32_200 : BitVec 32 := 2#32
  let v349 : BitVec 32 := Scalar.muli arg0 c2_i32_200
  let c1_i32 : BitVec 32 := 1#32
  let v350 : BitVec 32 := Scalar.addi v349 c1_i32
  let v371 : Index := Scalar.indexCast v350
  let c4_213 : Index := 4#32
  ![v371.toNat, 4]
def k0_off58 (v372 : BitVec 32) : Fin 3 → Nat :=
  let c1_214 : Index := 1#32
  let v373 : Index := Scalar.indexCast v372
  let c0_215 : Index := 0#32
  ![1, v373.toNat, 0]

def k0_chk29 (v372 : BitVec 32) : Prop :=
  (∀ a, (k0_off58 v372) a + S1x1x384.size a ≤ S2x4096x384.size a)
theorem k0_off58_inb : ∀ (v372 : BitVec 32) (k0_hw29 : k0_chk29 v372), ∀ a, (k0_off58 v372) a + S1x1x384.size a ≤ S2x4096x384.size a := fun v372 k0_hw29 => k0_hw29

def k0_off59 (i : grid0.Coords) : Fin 2 → Nat :=
  let arg0 : BitVec 32 := BitVec.ofNat 32 (i 0).val
  let c2_i32_200 : BitVec 32 := 2#32
  let v349 : BitVec 32 := Scalar.muli arg0 c2_i32_200
  let c1_i32 : BitVec 32 := 1#32
  let v350 : BitVec 32 := Scalar.addi v349 c1_i32
  let v376 : Index := Scalar.indexCast v350
  let c5_216 : Index := 5#32
  ![v376.toNat, 5]
def k0_off60 (v377 : BitVec 32) : Fin 3 → Nat :=
  let c1_217 : Index := 1#32
  let v378 : Index := Scalar.indexCast v377
  let c0_218 : Index := 0#32
  ![1, v378.toNat, 0]

def k0_chk30 (v377 : BitVec 32) : Prop :=
  (∀ a, (k0_off60 v377) a + S1x1x384.size a ≤ S2x4096x384.size a)
theorem k0_off60_inb : ∀ (v377 : BitVec 32) (k0_hw30 : k0_chk30 v377), ∀ a, (k0_off60 v377) a + S1x1x384.size a ≤ S2x4096x384.size a := fun v377 k0_hw30 => k0_hw30

def k0_off61 (i : grid0.Coords) : Fin 2 → Nat :=
  let arg0 : BitVec 32 := BitVec.ofNat 32 (i 0).val
  let c2_i32_200 : BitVec 32 := 2#32
  let v349 : BitVec 32 := Scalar.muli arg0 c2_i32_200
  let c1_i32 : BitVec 32 := 1#32
  let v350 : BitVec 32 := Scalar.addi v349 c1_i32
  let v381 : Index := Scalar.indexCast v350
  let c6_219 : Index := 6#32
  ![v381.toNat, 6]
def k0_off62 (v382 : BitVec 32) : Fin 3 → Nat :=
  let c1_220 : Index := 1#32
  let v383 : Index := Scalar.indexCast v382
  let c0_221 : Index := 0#32
  ![1, v383.toNat, 0]

def k0_chk31 (v382 : BitVec 32) : Prop :=
  (∀ a, (k0_off62 v382) a + S1x1x384.size a ≤ S2x4096x384.size a)
theorem k0_off62_inb : ∀ (v382 : BitVec 32) (k0_hw31 : k0_chk31 v382), ∀ a, (k0_off62 v382) a + S1x1x384.size a ≤ S2x4096x384.size a := fun v382 k0_hw31 => k0_hw31

def k0_off63 (i : grid0.Coords) : Fin 2 → Nat :=
  let arg0 : BitVec 32 := BitVec.ofNat 32 (i 0).val
  let c2_i32_200 : BitVec 32 := 2#32
  let v349 : BitVec 32 := Scalar.muli arg0 c2_i32_200
  let c1_i32 : BitVec 32 := 1#32
  let v350 : BitVec 32 := Scalar.addi v349 c1_i32
  let v386 : Index := Scalar.indexCast v350
  let c7_222 : Index := 7#32
  ![v386.toNat, 7]
def k0_off64 (v387 : BitVec 32) : Fin 3 → Nat :=
  let c1_223 : Index := 1#32
  let v388 : Index := Scalar.indexCast v387
  let c0_224 : Index := 0#32
  ![1, v388.toNat, 0]

def k0_chk32 (v387 : BitVec 32) : Prop :=
  (∀ a, (k0_off64 v387) a + S1x1x384.size a ≤ S2x4096x384.size a)
theorem k0_off64_inb : ∀ (v387 : BitVec 32) (k0_hw32 : k0_chk32 v387), ∀ a, (k0_off64 v387) a + S1x1x384.size a ≤ S2x4096x384.size a := fun v387 k0_hw32 => k0_hw32

def k0_off65 (i : grid0.Coords) : Fin 2 → Nat :=
  let arg0 : BitVec 32 := BitVec.ofNat 32 (i 0).val
  let c2_i32_200 : BitVec 32 := 2#32
  let v349 : BitVec 32 := Scalar.muli arg0 c2_i32_200
  let c1_i32 : BitVec 32 := 1#32
  let v350 : BitVec 32 := Scalar.addi v349 c1_i32
  let v391 : Index := Scalar.indexCast v350
  let c8_225 : Index := 8#32
  ![v391.toNat, 8]
def k0_off66 (v392 : BitVec 32) : Fin 3 → Nat :=
  let c1_226 : Index := 1#32
  let v393 : Index := Scalar.indexCast v392
  let c0_227 : Index := 0#32
  ![1, v393.toNat, 0]

def k0_chk33 (v392 : BitVec 32) : Prop :=
  (∀ a, (k0_off66 v392) a + S1x1x384.size a ≤ S2x4096x384.size a)
theorem k0_off66_inb : ∀ (v392 : BitVec 32) (k0_hw33 : k0_chk33 v392), ∀ a, (k0_off66 v392) a + S1x1x384.size a ≤ S2x4096x384.size a := fun v392 k0_hw33 => k0_hw33

def k0_off67 (i : grid0.Coords) : Fin 2 → Nat :=
  let arg0 : BitVec 32 := BitVec.ofNat 32 (i 0).val
  let c2_i32_200 : BitVec 32 := 2#32
  let v349 : BitVec 32 := Scalar.muli arg0 c2_i32_200
  let c1_i32 : BitVec 32 := 1#32
  let v350 : BitVec 32 := Scalar.addi v349 c1_i32
  let v396 : Index := Scalar.indexCast v350
  let c9_228 : Index := 9#32
  ![v396.toNat, 9]
def k0_off68 (v397 : BitVec 32) : Fin 3 → Nat :=
  let c1_229 : Index := 1#32
  let v398 : Index := Scalar.indexCast v397
  let c0_230 : Index := 0#32
  ![1, v398.toNat, 0]

def k0_chk34 (v397 : BitVec 32) : Prop :=
  (∀ a, (k0_off68 v397) a + S1x1x384.size a ≤ S2x4096x384.size a)
theorem k0_off68_inb : ∀ (v397 : BitVec 32) (k0_hw34 : k0_chk34 v397), ∀ a, (k0_off68 v397) a + S1x1x384.size a ≤ S2x4096x384.size a := fun v397 k0_hw34 => k0_hw34

def k0_off69 (i : grid0.Coords) : Fin 2 → Nat :=
  let arg0 : BitVec 32 := BitVec.ofNat 32 (i 0).val
  let c2_i32_200 : BitVec 32 := 2#32
  let v349 : BitVec 32 := Scalar.muli arg0 c2_i32_200
  let c1_i32 : BitVec 32 := 1#32
  let v350 : BitVec 32 := Scalar.addi v349 c1_i32
  let v401 : Index := Scalar.indexCast v350
  let c10_231 : Index := 10#32
  ![v401.toNat, 10]
def k0_off70 (v402 : BitVec 32) : Fin 3 → Nat :=
  let c1_232 : Index := 1#32
  let v403 : Index := Scalar.indexCast v402
  let c0_233 : Index := 0#32
  ![1, v403.toNat, 0]

def k0_chk35 (v402 : BitVec 32) : Prop :=
  (∀ a, (k0_off70 v402) a + S1x1x384.size a ≤ S2x4096x384.size a)
theorem k0_off70_inb : ∀ (v402 : BitVec 32) (k0_hw35 : k0_chk35 v402), ∀ a, (k0_off70 v402) a + S1x1x384.size a ≤ S2x4096x384.size a := fun v402 k0_hw35 => k0_hw35

def k0_off71 (i : grid0.Coords) : Fin 2 → Nat :=
  let arg0 : BitVec 32 := BitVec.ofNat 32 (i 0).val
  let c2_i32_200 : BitVec 32 := 2#32
  let v349 : BitVec 32 := Scalar.muli arg0 c2_i32_200
  let c1_i32 : BitVec 32 := 1#32
  let v350 : BitVec 32 := Scalar.addi v349 c1_i32
  let v406 : Index := Scalar.indexCast v350
  let c11_234 : Index := 11#32
  ![v406.toNat, 11]
def k0_off72 (v407 : BitVec 32) : Fin 3 → Nat :=
  let c1_235 : Index := 1#32
  let v408 : Index := Scalar.indexCast v407
  let c0_236 : Index := 0#32
  ![1, v408.toNat, 0]

def k0_chk36 (v407 : BitVec 32) : Prop :=
  (∀ a, (k0_off72 v407) a + S1x1x384.size a ≤ S2x4096x384.size a)
theorem k0_off72_inb : ∀ (v407 : BitVec 32) (k0_hw36 : k0_chk36 v407), ∀ a, (k0_off72 v407) a + S1x1x384.size a ≤ S2x4096x384.size a := fun v407 k0_hw36 => k0_hw36

def k0_off73 (i : grid0.Coords) : Fin 2 → Nat :=
  let arg0 : BitVec 32 := BitVec.ofNat 32 (i 0).val
  let c2_i32_200 : BitVec 32 := 2#32
  let v349 : BitVec 32 := Scalar.muli arg0 c2_i32_200
  let c1_i32 : BitVec 32 := 1#32
  let v350 : BitVec 32 := Scalar.addi v349 c1_i32
  let v411 : Index := Scalar.indexCast v350
  let c12_237 : Index := 12#32
  ![v411.toNat, 12]
def k0_off74 (v412 : BitVec 32) : Fin 3 → Nat :=
  let c1_238 : Index := 1#32
  let v413 : Index := Scalar.indexCast v412
  let c0_239 : Index := 0#32
  ![1, v413.toNat, 0]

def k0_chk37 (v412 : BitVec 32) : Prop :=
  (∀ a, (k0_off74 v412) a + S1x1x384.size a ≤ S2x4096x384.size a)
theorem k0_off74_inb : ∀ (v412 : BitVec 32) (k0_hw37 : k0_chk37 v412), ∀ a, (k0_off74 v412) a + S1x1x384.size a ≤ S2x4096x384.size a := fun v412 k0_hw37 => k0_hw37

def k0_off75 (i : grid0.Coords) : Fin 2 → Nat :=
  let arg0 : BitVec 32 := BitVec.ofNat 32 (i 0).val
  let c2_i32_200 : BitVec 32 := 2#32
  let v349 : BitVec 32 := Scalar.muli arg0 c2_i32_200
  let c1_i32 : BitVec 32 := 1#32
  let v350 : BitVec 32 := Scalar.addi v349 c1_i32
  let v416 : Index := Scalar.indexCast v350
  let c13_240 : Index := 13#32
  ![v416.toNat, 13]
def k0_off76 (v417 : BitVec 32) : Fin 3 → Nat :=
  let c1_241 : Index := 1#32
  let v418 : Index := Scalar.indexCast v417
  let c0_242 : Index := 0#32
  ![1, v418.toNat, 0]

def k0_chk38 (v417 : BitVec 32) : Prop :=
  (∀ a, (k0_off76 v417) a + S1x1x384.size a ≤ S2x4096x384.size a)
theorem k0_off76_inb : ∀ (v417 : BitVec 32) (k0_hw38 : k0_chk38 v417), ∀ a, (k0_off76 v417) a + S1x1x384.size a ≤ S2x4096x384.size a := fun v417 k0_hw38 => k0_hw38

def k0_off77 (i : grid0.Coords) : Fin 2 → Nat :=
  let arg0 : BitVec 32 := BitVec.ofNat 32 (i 0).val
  let c2_i32_200 : BitVec 32 := 2#32
  let v349 : BitVec 32 := Scalar.muli arg0 c2_i32_200
  let c1_i32 : BitVec 32 := 1#32
  let v350 : BitVec 32 := Scalar.addi v349 c1_i32
  let v421 : Index := Scalar.indexCast v350
  let c14_243 : Index := 14#32
  ![v421.toNat, 14]
def k0_off78 (v422 : BitVec 32) : Fin 3 → Nat :=
  let c1_244 : Index := 1#32
  let v423 : Index := Scalar.indexCast v422
  let c0_245 : Index := 0#32
  ![1, v423.toNat, 0]

def k0_chk39 (v422 : BitVec 32) : Prop :=
  (∀ a, (k0_off78 v422) a + S1x1x384.size a ≤ S2x4096x384.size a)
theorem k0_off78_inb : ∀ (v422 : BitVec 32) (k0_hw39 : k0_chk39 v422), ∀ a, (k0_off78 v422) a + S1x1x384.size a ≤ S2x4096x384.size a := fun v422 k0_hw39 => k0_hw39

def k0_off79 (i : grid0.Coords) : Fin 2 → Nat :=
  let arg0 : BitVec 32 := BitVec.ofNat 32 (i 0).val
  let c2_i32_200 : BitVec 32 := 2#32
  let v349 : BitVec 32 := Scalar.muli arg0 c2_i32_200
  let c1_i32 : BitVec 32 := 1#32
  let v350 : BitVec 32 := Scalar.addi v349 c1_i32
  let v426 : Index := Scalar.indexCast v350
  let c15_246 : Index := 15#32
  ![v426.toNat, 15]
def k0_off80 (v427 : BitVec 32) : Fin 3 → Nat :=
  let c1_247 : Index := 1#32
  let v428 : Index := Scalar.indexCast v427
  let c0_248 : Index := 0#32
  ![1, v428.toNat, 0]

def k0_chk40 (v427 : BitVec 32) : Prop :=
  (∀ a, (k0_off80 v427) a + S1x1x384.size a ≤ S2x4096x384.size a)
theorem k0_off80_inb : ∀ (v427 : BitVec 32) (k0_hw40 : k0_chk40 v427), ∀ a, (k0_off80 v427) a + S1x1x384.size a ≤ S2x4096x384.size a := fun v427 k0_hw40 => k0_hw40

def k0_off81 (i : grid0.Coords) : Fin 2 → Nat :=
  let arg0 : BitVec 32 := BitVec.ofNat 32 (i 0).val
  let c2_i32_200 : BitVec 32 := 2#32
  let v349 : BitVec 32 := Scalar.muli arg0 c2_i32_200
  let c1_i32 : BitVec 32 := 1#32
  let v350 : BitVec 32 := Scalar.addi v349 c1_i32
  let v431 : Index := Scalar.indexCast v350
  let c16_249 : Index := 16#32
  ![v431.toNat, 16]
def k0_off82 (v432 : BitVec 32) : Fin 3 → Nat :=
  let c1_250 : Index := 1#32
  let v433 : Index := Scalar.indexCast v432
  let c0_251 : Index := 0#32
  ![1, v433.toNat, 0]

def k0_chk41 (v432 : BitVec 32) : Prop :=
  (∀ a, (k0_off82 v432) a + S1x1x384.size a ≤ S2x4096x384.size a)
theorem k0_off82_inb : ∀ (v432 : BitVec 32) (k0_hw41 : k0_chk41 v432), ∀ a, (k0_off82 v432) a + S1x1x384.size a ≤ S2x4096x384.size a := fun v432 k0_hw41 => k0_hw41

def k0_off83 (i : grid0.Coords) : Fin 2 → Nat :=
  let arg0 : BitVec 32 := BitVec.ofNat 32 (i 0).val
  let c2_i32_200 : BitVec 32 := 2#32
  let v349 : BitVec 32 := Scalar.muli arg0 c2_i32_200
  let c1_i32 : BitVec 32 := 1#32
  let v350 : BitVec 32 := Scalar.addi v349 c1_i32
  let v436 : Index := Scalar.indexCast v350
  let c17_252 : Index := 17#32
  ![v436.toNat, 17]
def k0_off84 (v437 : BitVec 32) : Fin 3 → Nat :=
  let c1_253 : Index := 1#32
  let v438 : Index := Scalar.indexCast v437
  let c0_254 : Index := 0#32
  ![1, v438.toNat, 0]

def k0_chk42 (v437 : BitVec 32) : Prop :=
  (∀ a, (k0_off84 v437) a + S1x1x384.size a ≤ S2x4096x384.size a)
theorem k0_off84_inb : ∀ (v437 : BitVec 32) (k0_hw42 : k0_chk42 v437), ∀ a, (k0_off84 v437) a + S1x1x384.size a ≤ S2x4096x384.size a := fun v437 k0_hw42 => k0_hw42

def k0_off85 (i : grid0.Coords) : Fin 2 → Nat :=
  let arg0 : BitVec 32 := BitVec.ofNat 32 (i 0).val
  let c2_i32_200 : BitVec 32 := 2#32
  let v349 : BitVec 32 := Scalar.muli arg0 c2_i32_200
  let c1_i32 : BitVec 32 := 1#32
  let v350 : BitVec 32 := Scalar.addi v349 c1_i32
  let v441 : Index := Scalar.indexCast v350
  let c18_255 : Index := 18#32
  ![v441.toNat, 18]
def k0_off86 (v442 : BitVec 32) : Fin 3 → Nat :=
  let c1_256 : Index := 1#32
  let v443 : Index := Scalar.indexCast v442
  let c0_257 : Index := 0#32
  ![1, v443.toNat, 0]

def k0_chk43 (v442 : BitVec 32) : Prop :=
  (∀ a, (k0_off86 v442) a + S1x1x384.size a ≤ S2x4096x384.size a)
theorem k0_off86_inb : ∀ (v442 : BitVec 32) (k0_hw43 : k0_chk43 v442), ∀ a, (k0_off86 v442) a + S1x1x384.size a ≤ S2x4096x384.size a := fun v442 k0_hw43 => k0_hw43

def k0_off87 (i : grid0.Coords) : Fin 2 → Nat :=
  let arg0 : BitVec 32 := BitVec.ofNat 32 (i 0).val
  let c2_i32_200 : BitVec 32 := 2#32
  let v349 : BitVec 32 := Scalar.muli arg0 c2_i32_200
  let c1_i32 : BitVec 32 := 1#32
  let v350 : BitVec 32 := Scalar.addi v349 c1_i32
  let v446 : Index := Scalar.indexCast v350
  let c19_258 : Index := 19#32
  ![v446.toNat, 19]
def k0_off88 (v447 : BitVec 32) : Fin 3 → Nat :=
  let c1_259 : Index := 1#32
  let v448 : Index := Scalar.indexCast v447
  let c0_260 : Index := 0#32
  ![1, v448.toNat, 0]

def k0_chk44 (v447 : BitVec 32) : Prop :=
  (∀ a, (k0_off88 v447) a + S1x1x384.size a ≤ S2x4096x384.size a)
theorem k0_off88_inb : ∀ (v447 : BitVec 32) (k0_hw44 : k0_chk44 v447), ∀ a, (k0_off88 v447) a + S1x1x384.size a ≤ S2x4096x384.size a := fun v447 k0_hw44 => k0_hw44

def k0_off89 (i : grid0.Coords) : Fin 2 → Nat :=
  let arg0 : BitVec 32 := BitVec.ofNat 32 (i 0).val
  let c2_i32_200 : BitVec 32 := 2#32
  let v349 : BitVec 32 := Scalar.muli arg0 c2_i32_200
  let c1_i32 : BitVec 32 := 1#32
  let v350 : BitVec 32 := Scalar.addi v349 c1_i32
  let v451 : Index := Scalar.indexCast v350
  let c20_261 : Index := 20#32
  ![v451.toNat, 20]
def k0_off90 (v452 : BitVec 32) : Fin 3 → Nat :=
  let c1_262 : Index := 1#32
  let v453 : Index := Scalar.indexCast v452
  let c0_263 : Index := 0#32
  ![1, v453.toNat, 0]

def k0_chk45 (v452 : BitVec 32) : Prop :=
  (∀ a, (k0_off90 v452) a + S1x1x384.size a ≤ S2x4096x384.size a)
theorem k0_off90_inb : ∀ (v452 : BitVec 32) (k0_hw45 : k0_chk45 v452), ∀ a, (k0_off90 v452) a + S1x1x384.size a ≤ S2x4096x384.size a := fun v452 k0_hw45 => k0_hw45

def k0_off91 (i : grid0.Coords) : Fin 2 → Nat :=
  let arg0 : BitVec 32 := BitVec.ofNat 32 (i 0).val
  let c2_i32_200 : BitVec 32 := 2#32
  let v349 : BitVec 32 := Scalar.muli arg0 c2_i32_200
  let c1_i32 : BitVec 32 := 1#32
  let v350 : BitVec 32 := Scalar.addi v349 c1_i32
  let v456 : Index := Scalar.indexCast v350
  let c21_264 : Index := 21#32
  ![v456.toNat, 21]
def k0_off92 (v457 : BitVec 32) : Fin 3 → Nat :=
  let c1_265 : Index := 1#32
  let v458 : Index := Scalar.indexCast v457
  let c0_266 : Index := 0#32
  ![1, v458.toNat, 0]

def k0_chk46 (v457 : BitVec 32) : Prop :=
  (∀ a, (k0_off92 v457) a + S1x1x384.size a ≤ S2x4096x384.size a)
theorem k0_off92_inb : ∀ (v457 : BitVec 32) (k0_hw46 : k0_chk46 v457), ∀ a, (k0_off92 v457) a + S1x1x384.size a ≤ S2x4096x384.size a := fun v457 k0_hw46 => k0_hw46

def k0_off93 (i : grid0.Coords) : Fin 2 → Nat :=
  let arg0 : BitVec 32 := BitVec.ofNat 32 (i 0).val
  let c2_i32_200 : BitVec 32 := 2#32
  let v349 : BitVec 32 := Scalar.muli arg0 c2_i32_200
  let c1_i32 : BitVec 32 := 1#32
  let v350 : BitVec 32 := Scalar.addi v349 c1_i32
  let v461 : Index := Scalar.indexCast v350
  let c22_267 : Index := 22#32
  ![v461.toNat, 22]
def k0_off94 (v462 : BitVec 32) : Fin 3 → Nat :=
  let c1_268 : Index := 1#32
  let v463 : Index := Scalar.indexCast v462
  let c0_269 : Index := 0#32
  ![1, v463.toNat, 0]

def k0_chk47 (v462 : BitVec 32) : Prop :=
  (∀ a, (k0_off94 v462) a + S1x1x384.size a ≤ S2x4096x384.size a)
theorem k0_off94_inb : ∀ (v462 : BitVec 32) (k0_hw47 : k0_chk47 v462), ∀ a, (k0_off94 v462) a + S1x1x384.size a ≤ S2x4096x384.size a := fun v462 k0_hw47 => k0_hw47

def k0_off95 (i : grid0.Coords) : Fin 2 → Nat :=
  let arg0 : BitVec 32 := BitVec.ofNat 32 (i 0).val
  let c2_i32_200 : BitVec 32 := 2#32
  let v349 : BitVec 32 := Scalar.muli arg0 c2_i32_200
  let c1_i32 : BitVec 32 := 1#32
  let v350 : BitVec 32 := Scalar.addi v349 c1_i32
  let v466 : Index := Scalar.indexCast v350
  let c23_270 : Index := 23#32
  ![v466.toNat, 23]
def k0_off96 (v467 : BitVec 32) : Fin 3 → Nat :=
  let c1_271 : Index := 1#32
  let v468 : Index := Scalar.indexCast v467
  let c0_272 : Index := 0#32
  ![1, v468.toNat, 0]

def k0_chk48 (v467 : BitVec 32) : Prop :=
  (∀ a, (k0_off96 v467) a + S1x1x384.size a ≤ S2x4096x384.size a)
theorem k0_off96_inb : ∀ (v467 : BitVec 32) (k0_hw48 : k0_chk48 v467), ∀ a, (k0_off96 v467) a + S1x1x384.size a ≤ S2x4096x384.size a := fun v467 k0_hw48 => k0_hw48

@[reducible] def k0_t1_loop : Scf.Loop 32 :=
  let c0_i32_275 : BitVec 32 := 0#32
  let c20_i32 : BitVec 32 := 20#32
  let v477 : BitVec 32 := Scalar.addi c0_i32_275 c20_i32
  let c1_i32_276 : BitVec 32 := 1#32
  ⟨c0_i32_275, v477, c1_i32_276⟩
def k0_off97 (k0_t1 : Fin k0_t1_loop.trips) : Fin 4 → Nat :=
  let c0_326 : Index := 0#32
  let c0_i32_275 : BitVec 32 := 0#32
  let c1_i32_276 : BitVec 32 := 1#32
  let arg7 : BitVec 32 := Scf.iv c0_i32_275 c1_i32_276 k0_t1
  let v603 : Index := Scalar.indexCast arg7
  let c0_327 : Index := 0#32
  let c0_328 : Index := 0#32
  ![0, v603.toNat, 0, 0]
def k0_off98 (k0_t1 : Fin k0_t1_loop.trips) : Fin 4 → Nat :=
  let c1_372 : Index := 1#32
  let c0_i32_275 : BitVec 32 := 0#32
  let c1_i32_276 : BitVec 32 := 1#32
  let arg7 : BitVec 32 := Scf.iv c0_i32_275 c1_i32_276 k0_t1
  let v725 : Index := Scalar.indexCast arg7
  let c0_373 : Index := 0#32
  let c0_374 : Index := 0#32
  ![1, v725.toNat, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x4096x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x20x24x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== KernelIdeal.lean ====
variable {F : FTy → Type} [FloatOps F] [Named F]
def κ : String → Option EReal := fun
  | "inv_k" => some ((24⁻¹ : ℝ) : EReal)
  | _ => none
-- ==== ReferenceIdeal.lean ====
abbrev S8x64x64x384 : Shape := ⟨4, ![8, 64, 64, 384]⟩
abbrev S8x24 : Shape := ⟨2, ![8, 24]⟩
abbrev S8x4096x384 : Shape := ⟨3, ![8, 4096, 384]⟩
abbrev S8x24x1 : Shape := ⟨3, ![8, 24, 1]⟩
abbrev S_ : Shape := ⟨0, ![]⟩
abbrev S1 : Shape := ⟨1, ![1]⟩
abbrev S1x1x1 : Shape := ⟨3, ![1, 1, 1]⟩
abbrev S8x24x384 : Shape := ⟨3, ![8, 24, 384]⟩
abbrev S8x4096 : Shape := ⟨2, ![8, 4096]⟩
abbrev S8x4096x1 : Shape := ⟨3, ![8, 4096, 1]⟩
abbrev S8x1x24 : Shape := ⟨3, ![8, 1, 24]⟩
abbrev S8x4096x24 : Shape := ⟨3, ![8, 4096, 24]⟩
abbrev S1x1x24 : Shape := ⟨3, ![1, 1, 24]⟩

abbrev nBuf : Space → Nat
  | .hbm => 95
  | .vmem => 0
  | .smem => 0
  | _ => 0

abbrev bufTy : (tb : Table) → Fin (tcTables nBuf tb) → BufTy
  | .hbm, ⟨0, _⟩ => ⟨S8x64x64x384, .f32⟩
  | .hbm, ⟨1, _⟩ => ⟨S8x24, .i32⟩
  | .hbm, ⟨2, _⟩ => ⟨S8x4096x384, .f32⟩
  | .hbm, ⟨3, _⟩ => ⟨S8x24x1, .i32⟩
  | .hbm, ⟨4, _⟩ => ⟨S_, .i32⟩
  | .hbm, ⟨5, _⟩ => ⟨S8x24x1, .i32⟩
  | .hbm, ⟨6, _⟩ => ⟨S8x24x1, .i1⟩
  | .hbm, ⟨7, _⟩ => ⟨S_, .i32⟩
  | .hbm, ⟨8, _⟩ => ⟨S8x24x1, .i32⟩
  | .hbm, ⟨9, _⟩ => ⟨S8x24x1, .i32⟩
  | .hbm, ⟨10, _⟩ => ⟨S8x24x1, .i32⟩
  | .hbm, ⟨11, _⟩ => ⟨S1, .i32⟩
  | .hbm, ⟨12, _⟩ => ⟨S_, .i32⟩
  | .hbm, ⟨13, _⟩ => ⟨S8x24x1, .i32⟩
  | .hbm, ⟨14, _⟩ => ⟨S8x24x1, .i1⟩
  | .hbm, ⟨15, _⟩ => ⟨S1x1x1, .i32⟩
  | .hbm, ⟨16, _⟩ => ⟨S8x24x1, .i32⟩
  | .hbm, ⟨17, _⟩ => ⟨S8x24x1, .i1⟩
  | .hbm, ⟨18, _⟩ => ⟨S8x24x1, .i1⟩
  | .hbm, ⟨19, _⟩ => ⟨S_, .i1⟩
  | .hbm, ⟨20, _⟩ => ⟨S8x24, .i1⟩
  | .hbm, ⟨21, _⟩ => ⟨S8x24x384, .f32⟩
  | .hbm, ⟨22, _⟩ => ⟨S8x24x384, .i1⟩
  | .hbm, ⟨23, _⟩ => ⟨S_, .f32⟩
  | .hbm, ⟨24, _⟩ => ⟨S8x24x384, .f32⟩
  | .hbm, ⟨25, _⟩ => ⟨S8x24x384, .f32⟩
  | .hbm, ⟨26, _⟩ => ⟨S8x4096x384, .f32⟩
  | .hbm, ⟨27, _⟩ => ⟨S_, .f32⟩
  | .hbm, ⟨28, _⟩ => ⟨S8x4096, .f32⟩
  | .hbm, ⟨29, _⟩ => ⟨S8x4096x1, .f32⟩
  | .hbm, ⟨30, _⟩ => ⟨S_, .i32⟩
  | .hbm, ⟨31, _⟩ => ⟨S_, .i1⟩
  | .hbm, ⟨32, _⟩ => ⟨S_, .i32⟩
  | .hbm, ⟨33, _⟩ => ⟨S8x4096x1, .f32⟩
  | .hbm, ⟨34, _⟩ => ⟨S8x4096x384, .f32⟩
  | .hbm, ⟨35, _⟩ => ⟨S_, .i32⟩
  | .hbm, ⟨36, _⟩ => ⟨S_, .i32⟩
  | .hbm, ⟨37, _⟩ => ⟨S8x24x384, .f32⟩
  | .hbm, ⟨38, _⟩ => ⟨S_, .i1⟩
  | .hbm, ⟨39, _⟩ => ⟨S_, .i32⟩
  | .hbm, ⟨40, _⟩ => ⟨S_, .i1⟩
  | .hbm, ⟨41, _⟩ => ⟨S_, .i32⟩
  | .hbm, ⟨42, _⟩ => ⟨S_, .i32⟩
  | .hbm, ⟨43, _⟩ => ⟨S8x24x384, .f32⟩
  | .hbm, ⟨44, _⟩ => ⟨S_, .f32⟩
  | .hbm, ⟨45, _⟩ => ⟨S8x24, .f32⟩
  | .hbm, ⟨46, _⟩ => ⟨S8x1x24, .f32⟩
  | .hbm, ⟨47, _⟩ => ⟨S8x4096x24, .f32⟩
  | .hbm, ⟨48, _⟩ => ⟨S8x4096x24, .f32⟩
  | .hbm, ⟨49, _⟩ => ⟨S8x4096x24, .f32⟩
  | .hbm, ⟨50, _⟩ => ⟨S8x4096x24, .f32⟩
  | .hbm, ⟨51, _⟩ => ⟨S_, .f32⟩
  | .hbm, ⟨52, _⟩ => ⟨S8x4096x24, .f32⟩
  | .hbm, ⟨53, _⟩ => ⟨S8x4096x24, .f32⟩
  | .hbm, ⟨54, _⟩ => ⟨S8x4096x24, .f32⟩
  | .hbm, ⟨55, _⟩ => ⟨S8x4096x24, .i32⟩
  | .hbm, ⟨56, _⟩ => ⟨S_, .f32⟩
  | .hbm, ⟨57, _⟩ => ⟨S_, .i32⟩
  | .hbm, ⟨58, _⟩ => ⟨S8x4096, .f32⟩
  | .hbm, ⟨59, _⟩ => ⟨S8x4096, .i32⟩
  | .hbm, ⟨60, _⟩ => ⟨S8x4096x1, .i32⟩
  | .hbm, ⟨61, _⟩ => ⟨S1x1x24, .i32⟩
  | .hbm, ⟨62, _⟩ => ⟨S8x4096x24, .i32⟩
  | .hbm, ⟨63, _⟩ => ⟨S8x4096x24, .i32⟩
  | .hbm, ⟨64, _⟩ => ⟨S8x4096x24, .i1⟩
  | .hbm, ⟨65, _⟩ => ⟨S8x4096x24, .f32⟩
  | .hbm, ⟨66, _⟩ => ⟨S_, .f32⟩
  | .hbm, ⟨67, _⟩ => ⟨S8x24, .f32⟩
  | .hbm, ⟨68, _⟩ => ⟨S8x24x384, .f32⟩
  | .hbm, ⟨69, _⟩ => ⟨S8x24x1, .f32⟩
  | .hbm, ⟨70, _⟩ => ⟨S_, .f32⟩
  | .hbm, ⟨71, _⟩ => ⟨S8x24x1, .f32⟩
  | .hbm, ⟨72, _⟩ => ⟨S8x24x1, .i1⟩
  | .hbm, ⟨73, _⟩ => ⟨S8x24x1, .f32⟩
  | .hbm, ⟨74, _⟩ => ⟨S_, .f32⟩
  | .hbm, ⟨75, _⟩ => ⟨S8x24x1, .f32⟩
  | .hbm, ⟨76, _⟩ => ⟨S8x24x1, .f32⟩
  | .hbm, ⟨77, _⟩ => ⟨S8x24x384, .f32⟩
  | .hbm, ⟨78, _⟩ => ⟨S8x24x384, .f32⟩
  | .hbm, ⟨79, _⟩ => ⟨S8x24x384, .i1⟩
  | .hbm, ⟨80, _⟩ => ⟨S8x24x384, .f32⟩
  | .hbm, ⟨81, _⟩ => ⟨S8x24x384, .f32⟩
  | .hbm, ⟨82, _⟩ => ⟨S8x24x384, .f32⟩
  | .hbm, ⟨83, _⟩ => ⟨S_, .f32⟩
  | .hbm, ⟨84, _⟩ => ⟨S8x24, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S8x24x384, .f32⟩
  | .hbm, ⟨90, _⟩ => ⟨S_, .f32⟩
  | .hbm, ⟨91, _⟩ => ⟨S_, .i1⟩
  | .hbm, ⟨92, _⟩ => ⟨S_, .i1⟩
  | .hbm, ⟨93, _⟩ => ⟨S_, .i32⟩
  | .hbm, ⟨94, _⟩ => ⟨S_, .i32⟩
  | _, _ => ⟨S8x64x64x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_v0 : Ref sig .tc := ⟨.hbm, 2, rfl⟩
abbrev main_v1 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_c_1 : Ref sig .tc := ⟨.hbm, 11, rfl⟩
abbrev main_call0_c_2 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_c_3 : Ref sig .tc := ⟨.hbm, 19, rfl⟩
abbrev main_call0_v11 : Ref sig .tc := ⟨.hbm, 20, rfl⟩
abbrev main_call0_v12 : Ref sig .tc := ⟨.hbm, 21, rfl⟩
abbrev main_call0_v13 : Ref sig .tc := ⟨.hbm, 22, rfl⟩
abbrev main_call0_cst : Ref sig .tc := ⟨.hbm, 23, rfl⟩
abbrev main_call0_v14 : Ref sig .tc := ⟨.hbm, 24, rfl⟩
abbrev main_v2 : Ref sig .tc := ⟨.hbm, 25, rfl⟩
abbrev main_v3 : Ref sig .tc := ⟨.hbm, 26, rfl⟩
abbrev main_cst : Ref sig .tc := ⟨.hbm, 27, rfl⟩
abbrev main_v4 : Ref sig .tc := ⟨.hbm, 28, rfl⟩
abbrev main_v5 : Ref sig .tc := ⟨.hbm, 29, rfl⟩
abbrev main_c_0 : Ref sig .tc := ⟨.hbm, 30, rfl⟩
abbrev main_c_1 : Ref sig .tc := ⟨.hbm, 31, rfl⟩
abbrev main_c_2 : Ref sig .tc := ⟨.hbm, 32, rfl⟩
abbrev main_v6_0 : Ref sig .tc := ⟨.hbm, 33, rfl⟩
abbrev main_v6_1 : Ref sig .tc := ⟨.hbm, 34, rfl⟩
abbrev main_v6_2 : Ref sig .tc := ⟨.hbm, 35, rfl⟩
abbrev main_v6_3 : Ref sig .tc := ⟨.hbm, 36, rfl⟩
abbrev main_v6_4 : Ref sig .tc := ⟨.hbm, 37, rfl⟩
abbrev main_v6_5 : Ref sig .tc := ⟨.hbm, 38, rfl⟩
abbrev main_while0c_c_8 : Ref sig .tc := ⟨.hbm, 39, rfl⟩
abbrev main_while0c_v7 : Ref sig .tc := ⟨.hbm, 40, rfl⟩
abbrev main_while0b_c_8 : Ref sig .tc := ⟨.hbm, 41, rfl⟩
abbrev main_while0b_v7 : Ref sig .tc := ⟨.hbm, 42, rfl⟩
abbrev main_while0b_v8 : Ref sig .tc := ⟨.hbm, 43, rfl⟩
abbrev main_while0b_cst_9 : Ref sig .tc := ⟨.hbm, 44, rfl⟩
abbrev main_while0b_v9 : Ref sig .tc := ⟨.hbm, 45, rfl⟩
abbrev main_while0b_v10 : Ref sig .tc := ⟨.hbm, 46, rfl⟩
abbrev main_while0b_v11 : Ref sig .tc := ⟨.hbm, 47, rfl⟩
abbrev main_while0b_v12 : Ref sig .tc := ⟨.hbm, 48, rfl⟩
abbrev main_while0b_v13 : Ref sig .tc := ⟨.hbm, 49, rfl⟩
abbrev main_while0b_v14 : Ref sig .tc := ⟨.hbm, 50, rfl⟩
abbrev main_while0b_cst_10 : Ref sig .tc := ⟨.hbm, 51, rfl⟩
abbrev main_while0b_v15 : Ref sig .tc := ⟨.hbm, 52, rfl⟩
abbrev main_while0b_v16 : Ref sig .tc := ⟨.hbm, 53, rfl⟩
abbrev main_while0b_v17 : Ref sig .tc := ⟨.hbm, 54, rfl⟩
abbrev main_while0b_call1_v0 : Ref sig .tc := ⟨.hbm, 55, rfl⟩
abbrev main_while0b_call1_cst : Ref sig .tc := ⟨.hbm, 56, rfl⟩
abbrev main_while0b_call1_c : Ref sig .tc := ⟨.hbm, 57, rfl⟩
abbrev main_while0b_call1_v1_0 : Ref sig .tc := ⟨.hbm, 58, rfl⟩
abbrev main_while0b_v18 : Ref sig .tc := ⟨.hbm, 59, rfl⟩
abbrev main_while0b_call2_v0 : Ref sig .tc := ⟨.hbm, 60, rfl⟩
abbrev main_while0b_call2_v1 : Ref sig .tc := ⟨.hbm, 61, rfl⟩
abbrev main_while0b_call2_v2 : Ref sig .tc := ⟨.hbm, 62, rfl⟩
abbrev main_while0b_call2_v3 : Ref sig .tc := ⟨.hbm, 63, rfl⟩
abbrev main_while0b_call2_v4 : Ref sig .tc := ⟨.hbm, 64, rfl⟩
abbrev main_while0b_v19 : Ref sig .tc := ⟨.hbm, 65, rfl⟩
abbrev main_while0b_cst_11 : Ref sig .tc := ⟨.hbm, 66, rfl⟩
abbrev main_while0b_v20 : Ref sig .tc := ⟨.hbm, 67, rfl⟩
abbrev main_while0b_v21 : Ref sig .tc := ⟨.hbm, 68, rfl⟩
abbrev main_while0b_v22 : Ref sig .tc := ⟨.hbm, 69, rfl⟩
abbrev main_while0b_cst_12 : Ref sig .tc := ⟨.hbm, 70, rfl⟩
abbrev main_while0b_v23 : Ref sig .tc := ⟨.hbm, 71, rfl⟩
abbrev main_while0b_v24 : Ref sig .tc := ⟨.hbm, 72, rfl⟩
abbrev main_while0b_v25 : Ref sig .tc := ⟨.hbm, 73, rfl⟩
abbrev main_while0b_cst_13 : Ref sig .tc := ⟨.hbm, 74, rfl⟩
abbrev main_while0b_v26 : Ref sig .tc := ⟨.hbm, 75, rfl⟩
abbrev main_while0b_v27 : Ref sig .tc := ⟨.hbm, 76, rfl⟩
abbrev main_while0b_v28 : Ref sig .tc := ⟨.hbm, 77, rfl⟩
abbrev main_while0b_v29 : Ref sig .tc := ⟨.hbm, 78, rfl⟩
abbrev main_while0b_call3_v0 : Ref sig .tc := ⟨.hbm, 79, rfl⟩
abbrev main_while0b_v30 : Ref sig .tc := ⟨.hbm, 80, rfl⟩
abbrev main_while0b_v31 : Ref sig .tc := ⟨.hbm, 81, rfl⟩
abbrev main_while0b_v32 : Ref sig .tc := ⟨.hbm, 82, rfl⟩
abbrev main_while0b_cst_14 : Ref sig .tc := ⟨.hbm, 83, rfl⟩
abbrev main_while0b_v33 : Ref sig .tc := ⟨.hbm, 84, rfl⟩
abbrev main_while0b_cst_15 : Ref sig .tc := ⟨.hbm, 85, rfl⟩
abbrev main_while0b_v34 : Ref sig .tc := ⟨.hbm, 86, rfl⟩
abbrev main_while0b_cst_16 : Ref sig .tc := ⟨.hbm, 87, rfl⟩
abbrev main_while0b_v35 : Ref sig .tc := ⟨.hbm, 88, rfl⟩
abbrev main_while0b_v36 : Ref sig .tc := ⟨.hbm, 89, rfl⟩
abbrev main_while0b_cst_17 : Ref sig .tc := ⟨.hbm, 90, rfl⟩
abbrev main_while0b_v37 : Ref sig .tc := ⟨.hbm, 91, rfl⟩
abbrev main_while0b_v38 : Ref sig .tc := ⟨.hbm, 92, rfl⟩
abbrev main_while0b_c_18 : Ref sig .tc := ⟨.hbm, 93, rfl⟩
abbrev main_while0b_v39 : Ref sig .tc := ⟨.hbm, 94, rfl⟩

abbrev nD : Nat := 1
abbrev τ : Topo := Topo.v7x

variable {F : FTy → Type} [FloatOps F]

abbrev main_while0_count : Scf.Loop 32 := ⟨0#32, 20#32, 1#32⟩
-- ==== Proof.KI.Body.lean ====
/-
  One run of the idealized kernel's body, on any staging memrefs.

  The body reads 24 words of the prefetched table for each of its two batch elements and loads one row of the block at
  each word; the row is inside the block because every word is below 4096 (`chk0`, `chk1`). The run itself (`bodyRun`)
  finds what the stores leave in the two outputs' staging buffers, as lists of pieces; `out1` and `out2` read those
  pieces back, whole because the pieces cover the buffers (`cover1`, `cover2`).
-/
module

public import proofs.«01_k».proof.Proof.Gen.KernelIdeal.Launch
public import proofs.«01_k».proof.Proof.Gen.KernelIdeal.Skeleton
public import proofs.«01_k».proof.Proof.Gen.KernelIdeal.Loops
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Km

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The prefetched table as the body is handed it: its whole buffer. -/
abbrev tbM : Memref sig .tc .smem S8x24 .i32 := Memref.whole main_call0_c
abbrev htbM : tbM.IsWhole := Memref.isWhole_whole _

/-- A table memref's buffer on core `c`, and that buffer held at half the full share. -/
abbrev TbBuf (c : Dev nD) {S : Shape} {e : EltTy} (M : Memref sig .tc .smem S e) : Type := Buf (Elt F) (M.view.loc (c : Thread nD τ))
abbrev tbPt (c : Dev nD) {S : Shape} {e : EltTy} (M : Memref sig .tc .smem S e) (f : TbBuf (F := F) c M) : sProp 𝕄 :=
  M.view.loc (c : Thread nD τ) ↦{fullShare.right} f

/-- The scratch operands: the transposed and the plain copy of the block. -/
abbrev scT : Memref sig .tc .vmem S2x384x4096 .bf16 := Memref.whole cc0_scratch0
abbrev scB : Memref sig .tc .vmem S2x4096x384 .bf16 := Memref.whole cc0_scratch1

/-- A row of batch element 0 at a word below 4096 is inside the block; -/
theorem chk0 (w : BitVec 32) (h : w.toNat < 4096) : k0_chk1 w := by
  intro a
  match a with
  | ⟨0, _⟩ => show 0 + 1 ≤ 2; omega
  | ⟨1, _⟩ => show w.toNat + 1 ≤ 4096; omega
  | ⟨2, _⟩ => show 0 + 384 ≤ 384; omega

/-- and a row of batch element 1. -/
theorem chk1 (w : BitVec 32) (h : w.toNat < 4096) : k0_chk25 w := by
  intro a
  match a with
  | ⟨0, _⟩ => show 1 + 1 ≤ 2; omega
  | ⟨1, _⟩ => show w.toNat + 1 ≤ 4096; omega
  | ⟨2, _⟩ => show 0 + 384 ≤ 384; omega

/-- A word loaded from a table all of whose words are below 4096 is below 4096. -/
theorem word_lt {c : Dev nD} {xt : TbBuf (F := F) c tbM} (hT : ∀ y : S8x24.Idx, (xt y : BitVec 32).toNat < 4096)
    (off : Fin 2 → Nat) (h : ∀ a, off a + S1x1.size a ≤ S8x24.size a) (j : S1x1.Idx) :
    (tbM.view.readAt (Elt F) (Rect.unit (s := S8x24) off S1x1.size h).toLoadRect xt j : BitVec 32).toNat < 4096 := by
  rw [View.readAt_apply]; exact hT _

set_option maxHeartbeats 4000000 in
/-- What the body's stores leave in each output's staging memref, as pieces (last first), WITH the proof that on whole
    memrefs — the input's at its block, the table at words below 4096, the rest at anything — the body runs to the
    continuation holding the input and the table as they were, the scratch at something, and each output with its
    pieces written. -/
noncomputable def bodyRun (c : Dev nD) (i : grid0.Coords) (arg2 : Memref sig .tc .vmem S2x4096x384 .f32) (harg2 : arg2.IsWhole)
    (arg3 : Memref sig .tc .vmem S2x20x24x384 .f32) (harg3 : arg3.IsWhole) (arg4 : Memref sig .tc .vmem S2x8x128 .f32) (harg4 : arg4.IsWhole)
    (x0 : Vec F S2x4096x384 .f32) (xt : TbBuf (F := F) c tbM) (hT : ∀ y : S8x24.Idx, (xt y : BitVec 32).toNat < 4096) :
    Σ' (L1 : List (View.Piece (Elt F) S2x20x24x384 .f32)), { L2 : List (View.Piece (Elt F) S2x8x128 .f32) //
      ∀ (E : Set ℕ) (K : PUnit → sProp 𝕄),
        iprop(owns (c : Thread nD τ) arg2 fullShare x0 ∗ (∃ d, owns (c : Thread nD τ) arg3 fullShare d) ∗ (∃ d, owns (c : Thread nD τ) arg4 fullShare d) ∗ (∃ d, owns (c : Thread nD τ) scT fullShare d) ∗ (∃ d, owns (c : Thread nD τ) scB fullShare d) ∗ tbPt c tbM xt
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f L2) ∗ (∃ d, owns (c : Thread nD τ) scT fullShare d) ∗ (∃ d, owns (c : Thread nD τ) scB fullShare d) ∗ tbPt c tbM xt) -∗ K ⟨⟩))
          ⊢ wp frame (wpE (defs₀ (F := F)) Variants.none c none) E (cc0__kmeans_body i tbM htbM arg2 harg2 arg3 harg3 arg4 harg4 scT (Memref.isWhole_whole _) scB (Memref.isWhole_whole _)) K } := by
  refine ⟨?_, ?_, fun E K => ?run⟩
  case run =>
    simp only [cc0__kmeans_body_eq_skeleton]; unfold cc0__kmeans_body_skel
    simp only [k0_part20_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton]
    unfold owns
    iintro ⟨⟨%f0, %hf0, H0⟩, ⟨%d1, %f1, -, H1⟩, ⟨%d2, %f2, -, H2⟩, ⟨%ds0, %fs0, -, HS0⟩, ⟨%ds1, %fs1, -, HS1⟩, HT0, Hk⟩
    obtain rfl := harg2.eq_unread hf0
    sl_exec (disch := first | exact chk0 _ (word_lt hT _ _ _) | exact chk1 _ (word_lt hT _ _ _))
    sl_step
    iapply Hk
    isplitl [H0]
    · iexists _; isplitr; · ipureintro; exact harg2.read_unread _
      iexact H0
    isplitl [H1]; · iexists _; iexact H1
    isplitl [H2]; · iexists _; iexact H2
    isplitl [HS0]
    · iexists _, _; isplitr; swap; · iexact HS0
      ipureintro; rfl
    isplitl [HS1]
    · iexists _, _; isplitr; swap; · iexact HS1
      ipureintro; rfl
    iexact HT0

section Outputs

variable (c : Dev nD) (i : grid0.Coords) (arg2 : Memref sig .tc .vmem S2x4096x384 .f32) (harg2 : arg2.IsWhole)
    (arg3 : Memref sig .tc .vmem S2x20x24x384 .f32) (harg3 : arg3.IsWhole) (arg4 : Memref sig .tc .vmem S2x8x128 .f32) (harg4 : arg4.IsWhole)
    (x0 : Vec F S2x4096x384 .f32) (xt : TbBuf (F := F) c tbM) (hT : ∀ y : S8x24.Idx, (xt y : BitVec 32).toNat < 4096)

/-- The pieces of the trajectory output cover it: 40 blocks of one trip's centroids each. -/
theorem cover1 (y : S2x20x24x384.Idx) : ∃ pc ∈ (bodyRun c i arg2 harg2 arg3 harg3 arg4 harg4 x0 xt hT).1, y ∈ pc.1.set :=
  View.cover_of_tiledL (bodyRun c i arg2 harg2 arg3 harg3 arg4 harg4 x0 xt hT).1 S1x1x24x384.size (by sl_kernel_rfl) y

/-- The pieces of the shifts output cover it: two blocks. -/
theorem cover2 (y : S2x8x128.Idx) : ∃ pc ∈ (bodyRun c i arg2 harg2 arg3 harg3 arg4 harg4 x0 xt hT).2.1, y ∈ pc.1.set :=
  View.cover_of_tiledL (bodyRun c i arg2 harg2 arg3 harg3 arg4 harg4 x0 xt hT).2.1 S1x8x128.size (by sl_kernel_rfl) y

/-- One staging buffer of each output, through which its contents are stated (the choice does not matter: the pieces
    cover the buffer). -/
abbrev VO1 : View sig .tc .vmem S2x20x24x384 .f32 := (Memref.whole cc0_stg1_0 : Memref sig .tc .vmem S2x20x24x384 .f32).view
abbrev VO2 : View sig .tc .vmem S2x8x128 .f32 := (Memref.whole cc0_stg2_0 : Memref sig .tc .vmem S2x8x128 .f32).view

/-- What the run leaves in the trajectory output's staging buffer: its pieces read back over junk; -/
def out1 : Vec F S2x20x24x384 .f32 :=
  VO1.read (Elt F) (VO1.writes (Elt F) VO1.junk (bodyRun c i arg2 harg2 arg3 harg3 arg4 harg4 x0 xt hT).1)

/-- and in the shifts output's. -/
def out2 : Vec F S2x8x128 .f32 :=
  VO2.read (Elt F) (VO2.writes (Elt F) VO2.junk (bodyRun c i arg2 harg2 arg3 harg3 arg4 harg4 x0 xt hT).2.1)

end Outputs

end Cert.KernelIdeal.Km

end
-- ==== Proof.KI.Launch.lean ====
/-
  The launch of the idealized kernel: what the table and the arrays hold when the region is entered, the pipeline's
  proof data, the body obligation, and the run of the whole program.

  The region is entered after two host operations and left before thirty more; the run (`run_main`) gives every array
  the pipeline stages at its final contents and every other buffer as the later host operations leave it. From it
  come the frame (`quiescent`) and the result's contents (`run_value`).
-/
module

public import proofs.«01_k».proof.Proof.KI.Body

@[expose] public section

set_option maxRecDepth 16384

noncomputable section

namespace Cert.KernelIdeal.Km

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## What the region finds -/

/-- Every buffer's contents when the region is entered. -/
abbrev V₀ (c : Dev nD) : Valuation τ sig (Elt F) := StableHlo.after ([hostOps0] : List (List (HloOp τ sig (Elt F)))).flatten (fun b => m (c, b))
abbrev V (c : Dev nD) (b : Ref sig .tc) : Buf (Elt F) ((c : Thread nD τ).loc b) := V₀ m c (Proc.devRef .tc b)

/-- The host operations before the region use no fresh buffer; -/
theorem hostOps0_fresh : (hostOps0 : List (HloOp τ sig (Elt F))).Forall fun op => op.fresh = ∅ := by
  simp only [List.Forall]; repeat' constructor

/-- nor do those after it. -/
theorem hostOps1_fresh : (hostOps1 : List (HloOp τ sig (Elt F))).Forall fun op => op.fresh = ∅ := by
  simp only [List.Forall]; repeat' constructor

/-- @main: the host operations, the region, the host operations. -/
theorem hmain (𝒱₀ : Variants) : Pipeline.HMainPK (Ix := Unit) (Name := ℕ) (U := UR sig nD τ) (Lvl := ℕ) pcfgs 0 defs₀ 𝒱₀ m (main (F := F)) (V m)
    (fun _ => Pipeline.chain (([hostOps1] : List (List (HloOp τ sig (Elt F)))).map StableHlo.seq)) :=
  Pipeline.hmainP_around pcfgs 0 defs₀ 𝒱₀ m main [hostOps0] [hostOps1] hostOps0_sub hostOps0_fresh main_chain

/-- The table and the first reshape: what the two operations write. -/
theorem V_table (c : Dev nD) : V m c main_call0_c = fun y => lit0 (S8x24.rowMajor y) := by
  show StableHlo.after hostOps0 _ _ = _
  after_results
  rfl
theorem V_block (c : Dev nD) : V m c main_call0_v0
    = shapeCast S8x4096x384 (m ((c : Thread nD τ).loc main_arg0)) shapeCasts_S8x64x64x384_S8x4096x384 := by
  show StableHlo.after hostOps0 _ _ = _
  after_results
  rfl

/-- The argument is as launched. -/
theorem V_arg0 (c : Dev nD) : V m c main_arg0 = m ((c : Thread nD τ).loc main_arg0) := by
  show StableHlo.after hostOps0 _ _ = _
  after_results

/-- The table's contents (one device: device 0's). -/
def tbl : pre0.Contents (Elt F) := fun j => V m (0 : Dev nD) (pre0.ref j)
theorem V_pre (c : Dev nD) (j : Fin 1) : V m c (pre0.ref j) = tbl m j := by
  obtain rfl : c = 0 := Subsingleton.elim _ _; rfl

theorem tbl_eq : tbl m 0 = fun y => lit0 (S8x24.rowMajor y) := V_table m 0

/-- Every word of the table is below 4096. -/
theorem lit0_lt : ∀ k : Fin 192, (lit0 k).toNat < 4096 := by decide

theorem tbl_lt (y : S8x24.Idx) : (tbl m 0 y : BitVec 32).toNat < 4096 := by
  rw [tbl_eq]; exact lit0_lt _

/-- No window's index map reads the table. -/
theorem ok : ok0 (F := F) (tbl m) := trivial
abbrev adm : (pcfg0 (F := F)).Adm := ⟨tbl m, ok m⟩
abbrev cfgM : Pipeline.Cfg sig Λ₀ := cfg0 (adm m)

/-! ## The schedule -/

/-- The block of x is fetched at every point; -/
theorem fetch0 (t : Fin (cfgM m).N) : ((cfgM m).win 0).fetch t = true :=
  (fun t => (Pipeline.Window.fetchOf_reads cc0_transform_0 reads0_0 hreads0_0 0 (by decide) (by decide) (Pipeline.Window.sep_of_coord cc0_transform_0 0 0 (fun _ => rfl) (by decide)) (P := 1) (by decide) t).mpr (Nat.mod_one _) : ∀ t : Fin grid0.N, Pipeline.Window.fetchOf grid0 false cc0_transform_0 t = true) t
/-- the trajectories' block is written back at every point, -/
theorem flush1 (t : Fin (cfgM m).N) : ((cfgM m).win 1).flush t = true :=
  (fun t => (Pipeline.Window.flushOf_reads cc0_transform_1 reads0_1 hreads0_1 0 (by decide) (by decide) (Pipeline.Window.sep_of_coord cc0_transform_1 0 0 (fun _ => rfl) (by decide)) (P := 1) (m := 0) (by decide) rfl t).mpr (Nat.mod_one _) : ∀ t : Fin grid0.N, Pipeline.Window.flushOf grid0 true cc0_transform_1 t = true) t
/-- and so is the shifts'. -/
theorem flush2 (t : Fin (cfgM m).N) : ((cfgM m).win 2).flush t = true :=
  (fun t => (Pipeline.Window.flushOf_reads cc0_transform_2 reads0_2 hreads0_2 0 (by decide) (by decide) (Pipeline.Window.sep_of_coord cc0_transform_2 0 0 (fun _ => rfl) (by decide)) (P := 1) (m := 0) (by decide) rfl t).mpr (Nat.mod_one _) : ∀ t : Fin grid0.N, Pipeline.Window.flushOf grid0 true cc0_transform_2 t = true) t

/-- Each window's current staging memref at point `t`, and its wholeness. -/
abbrev ms0 (t : Fin (cfgM m).N) : Memref sig .tc .vmem S2x4096x384 .f32 := spec0_0.stage ((cfgM m).slots t 0)
abbrev hs0 (t : Fin (cfgM m).N) : (ms0 m t).IsWhole := hstage0_0 (((cfgM m).slots t 0).cast nbuf0_0)
abbrev ms1 (t : Fin (cfgM m).N) : Memref sig .tc .vmem S2x20x24x384 .f32 := spec0_1.stage ((cfgM m).slots t 1)
abbrev hs1 (t : Fin (cfgM m).N) : (ms1 m t).IsWhole := hstage0_1 (((cfgM m).slots t 1).cast nbuf0_1)
abbrev ms2 (t : Fin (cfgM m).N) : Memref sig .tc .vmem S2x8x128 .f32 := spec0_2.stage ((cfgM m).slots t 2)
abbrev hs2 (t : Fin (cfgM m).N) : (ms2 m t).IsWhole := hstage0_2 (((cfgM m).slots t 2).cast nbuf0_2)

/-- The kernel body at point `t`. -/
abbrev bodyAt (t : Fin (cfgM m).N) : Prog (TpuEff nD τ sig (Elt F) Λ₀ .tc) PUnit :=
  cc0__kmeans_body (grid0.coords t) tbM htbM (ms0 m t) (hs0 m t) (ms1 m t) (hs1 m t) (ms2 m t) (hs2 m t) scT (Memref.isWhole_whole _) scB (Memref.isWhole_whole _)

/-- The half of the table the region hands the body. -/
theorem PhiT_eq (c : Dev nD) : (Pipeline.ΦT pre0 (tbl m) c : sProp 𝕄) = iprop(tbPt c tbM (tbl m 0)) := by
  unfold Pipeline.ΦT Pipeline.prefHeld
  rw [show (Finset.univ : Finset (Fin 1)) = {(0 : Fin 1)} from by decide, bigSep_singleton]
  rfl

/-- The scratch the region hands the body, as memrefs owned at some contents, and the generator register. -/
theorem PhiA_eq (c : Dev nD) :
    (Pipeline.ΦA spec0 c : sProp 𝕄)
      = iprop(iprop((∃ d, owns (c : Thread nD τ) scT fullShare d) ∗ (∃ d, owns (c : Thread nD τ) scB fullShare d)) ∗ (∃ r, prngReg c r)) := by
  unfold Pipeline.ΦA; rw [scopedRest0_eq]; simp only [scT, scB, owns_whole]; try rfl

/-! ## The pipeline's proof data -/

/-- Window `w`'s block at point `t`, read off its array as the region finds it. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-- What the body leaves in the trajectory output's staging buffer at point `t`, -/
def outT (c : Dev nD) (t : Fin (cfgM m).N) : Vec F S2x20x24x384 .f32 :=
  out1 c (grid0.coords t) (ms0 m t) (hs0 m t) (ms1 m t) (hs1 m t) (ms2 m t) (hs2 m t) (iblk m c 0 t) (tbl m 0) (tbl_lt m)
/-- and in the shifts output's. -/
def outS (c : Dev nD) (t : Fin (cfgM m).N) : Vec F S2x8x128 .f32 :=
  out2 c (grid0.coords t) (ms0 m t) (hs0 m t) (ms1 m t) (hs1 m t) (ms2 m t) (hs2 m t) (iblk m c 0 t) (tbl m 0) (tbl_lt m)

/-- The proof data: arrays as found; after the body the input's buffer at its block and the outputs' at what the
    body leaves. -/
def dats (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => outT m c t
    | ⟨2, _⟩ => outS m c t
  Φ _ := iprop(Pipeline.ΦA spec0 c ∗ Pipeline.ΦT pre0 (tbl m) c)
  q _ := fullShare
  owed _ := 0

theorem A_eq (c : Dev nD) (w : Fin (cfgM m).W) : (dats m 0 c).A w = V m c (Pipeline.arrRef spec0 w) := by
  dsimp only [dats]
theorem after0 (c : Dev nD) (t : Fin (cfgM m).N) : (dats m 0 c).after 0 t = iblk m c 0 t := by dsimp only [dats]; try rfl
theorem after1 (c : Dev nD) (t : Fin (cfgM m).N) : (dats m 0 c).after 1 t = outT m c t := by dsimp only [dats]; try rfl
theorem after2 (c : Dev nD) (t : Fin (cfgM m).N) : (dats m 0 c).after 2 t = outS m c t := by dsimp only [dats]; try rfl

/-- The input's staging buffer holds its block at every point. -/
theorem before0 (c : Dev nD) (t : Fin (cfgM m).N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)

/-! ## The body obligation -/

/-- What the body is called with at point `t`, -/
def bodyPre (c : Dev nD) (t : Fin (cfgM m).N) : sProp 𝕄 :=
  iprop((dats m 0 c).Φ t.castSucc ∗ (dats m 0 c).owesAt () t.castSucc
    ∗ (∃ d, owns (c : Thread nD τ) (ms0 m t) fullShare ((dats m 0 c).before 0 t d))
    ∗ (∃ d, owns (c : Thread nD τ) (ms1 m t) fullShare ((dats m 0 c).before 1 t d))
    ∗ (∃ d, owns (c : Thread nD τ) (ms2 m t) fullShare ((dats m 0 c).before 2 t d)))

/-- and what it returns. -/
def bodyPost (c : Dev nD) (t : Fin (cfgM m).N) : sProp 𝕄 :=
  iprop((dats m 0 c).Φ t.succ ∗ (dats m 0 c).owesAt () t.succ
    ∗ owns (c : Thread nD τ) (ms0 m t) fullShare ((dats m 0 c).after 0 t)
    ∗ owns (c : Thread nD τ) (ms1 m t) fullShare ((dats m 0 c).after 1 t)
    ∗ owns (c : Thread nD τ) (ms2 m t) fullShare ((dats m 0 c).after 2 t))

set_option maxHeartbeats 2400000 in
/-- The body at any point: `bodyRun` at the point's memrefs, block and table. -/
theorem sound_body (c : Dev nD) (t : Fin (cfgM m).N) :
    bodyPre m c t ⊢ wp frame (wpE (defs₀ (F := F)) Variants.none c none) Set.univ (bodyAt m t) (fun _ => bodyPost m c t) := by
  unfold bodyPre bodyPost bodyAt
  simp only [before0]
  rw [show (dats m 0 c).Φ t.succ = (dats m 0 c).Φ t.castSucc from rfl,
    show (dats m 0 c).owesAt () t.succ = (dats m 0 c).owesAt () t.castSucc from rfl,
    after0, after1, after2]
  rw [show (dats m 0 c).Φ t.castSucc = iprop(Pipeline.ΦA spec0 c ∗ Pipeline.ΦT pre0 (tbl m) c) from rfl, PhiT_eq, PhiA_eq]
  unfold outT outS out1 out2
  iintro ⟨⟨⟨⟨HS0, HS1⟩, Hg⟩, HT0⟩, Ho, ⟨%d0, H0⟩, ⟨%d1, H1⟩, ⟨%d2, H2⟩⟩
  iapply ((bodyRun c (grid0.coords t) _ _ _ _ _ _ (iblk m c 0 t) (tbl m 0) (tbl_lt m)).2.2 Set.univ _)
  isplitl [H0]; · iexact H0
  isplitl [H1]; · iexists _; iexact H1
  isplitl [H2]; · iexists _; iexact H2
  isplitl [HS0]; · iexact HS0
  isplitl [HS1]; · iexact HS1
  isplitl [HT0]; · iexact HT0
  iintro ⟨H0, ⟨%e1, H1⟩, ⟨%e2, H2⟩, HS0, HS1, HT0⟩
  isplitl [HS0 HS1 Hg HT0]
  · isplitl [HS0 HS1 Hg]
    · isplitl [HS0 HS1]
      · isplitl [HS0]
        · iexact HS0
        iexact HS1
      iexact Hg
    iexact HT0
  isplitl [Ho]; · iexact Ho
  isplitl [H0]; · iexact H0
  isplitl [H1]
  · unfold owns; iexists _; isplitr
    swap; · iexact H1
    ipureintro; exact View.read_writes_of_cover _ _ _ _ _ (cover1 c _ _ _ _ _ _ _ _ _ _)
  unfold owns; iexists _; isplitr
  swap; · iexact H2
  ipureintro; exact View.read_writes_of_cover _ _ _ _ _ (cover2 c _ _ _ _ _ _ _ _ _ _)

theorem defs₀_row (t : Fin (cfgM m).N) :
    defs₀ (F := F) .tc (cfgM m).body ((cfgM m).bodyArgs t ((cfgM m).slots t)) = bodyAt m t := by
  unfold defs₀; rw [Defs.onTc_tc]

theorem body_obligation (c : Dev nD) : BodyObligation (dats (F := F) m 0 c) (defs₀ (F := F)) Variants.none () Set.univ := fun t => by
  rw [bigSep_W0, bigSep_W0, defs₀_row m]
  exact triple_restated (sound_body m c t) rfl .rfl fun _ => .rfl

/-! ## The run -/

/-- The buffers of an operation that takes its indices from a family of buffers. -/
theorem unaryIndexed_bufs {a y : Ref sig .tc} {n : Nat} (ix : Fin n → Ref sig .tc) (T : BufTy)
    (f : a.ty.Contents (Elt F) → (Fin n → T.Contents (Elt F)) → y.ty.Contents (Elt F)) (hT ha hix hy) :
    (StableHlo.unaryIndexed (τ := τ) a ix T y f hT ha hix hy).bufs
      = insert (Proc.devRef .tc a) (insert (Proc.devRef .tc y) (Finset.univ.image fun k => Proc.devRef .tc (ix k))) := rfl

/-- None of the later host operations touches the table; -/
theorem tail_table : (hostOps1 : List (HloOp τ sig (Elt F))).Forall fun op => Proc.devRef .tc main_call0_c ∉ op.bufs := by
  simp only [List.Forall]
  and_intros
  all_goals
    simp only [StableHlo.nullary_bufs, StableHlo.unary_bufs, StableHlo.binary_bufs, StableHlo.ternary_bufs,
      StableHlo.quaternary_bufs, StableHlo.reshape_bufs, unaryIndexed_bufs, Finset.mem_insert, Finset.mem_singleton, not_or]
    and_intros <;> first
      | exact StableHlo.devRef_ne_of_ne (by decide)
      | (intro h
         obtain ⟨k, -, e⟩ := Finset.mem_image.mp h
         revert k; rw [Fin.forall_fin_succ]
         repeat' first
           | exact fun e => absurd e.symm (StableHlo.devRef_ne_of_ne (by decide))
           | apply And.intro
           | rw [Fin.forall_fin_succ]
           | exact fun k => k.elim0)

/-- so they use only the pipeline's arrays and buffers no window stages; -/
theorem tail_sub : ∀ ops ∈ ([hostOps1] : List (List (HloOp τ sig (Elt F)))), ∀ op ∈ ops, op.bufs ⊆ Pipeline.tailRefs sig pre0 spec0 := by
  intro ops h op hop
  obtain rfl := List.mem_singleton.mp h
  refine Pipeline.sub_tailRefs pre0 spec0 op (List.forall_iff_forall_mem.mp hostOps1_sub op hop) fun k => ?_
  obtain rfl : k = 0 := Subsingleton.elim _ _
  exact List.forall_iff_forall_mem.mp tail_table op hop

/-- and none of them writes an array. -/
theorem tail_writes : (hostOps1 : List (HloOp τ sig (Elt F))).Forall fun op => ∀ w, Proc.devRef .tc (Pipeline.arrRef spec0 w) ∉ op.writes := by
  simp only [List.Forall]
  and_intros
  all_goals
    intro w
    fin_cases w <;>
    simp only [StableHlo.nullary_writes, StableHlo.unary_writes, StableHlo.binary_writes, StableHlo.ternary_writes,
      StableHlo.quaternary_writes, StableHlo.reshape_writes, StableHlo.unaryIndexed_writes, Finset.mem_singleton] <;>
    exact StableHlo.devRef_ne_of_ne (by decide)

theorem tail_keep : ∀ ops ∈ ([hostOps1] : List (List (HloOp τ sig (Elt F)))), ∀ op ∈ ops, ∀ w, Proc.devRef .tc (Pipeline.arrRef spec0 w) ∉ op.writes := by
  intro ops h op hop
  obtain rfl := List.mem_singleton.mp h
  exact List.forall_iff_forall_mem.mp tail_writes op hop

set_option backward.isDefEq.respectTransparency.types false in
/-- THE LAUNCH: every array at what the pipeline leaves, every other buffer as the later host operations leave it,
    and every semaphore counter at zero. -/
theorem run_main : θ_run defs (onTc (τ := τ) (main (F := F))) (s₀ m ρ) (fun r =>
    Pipeline.FramePost (Pipeline.pin pcfgs fun _ => adm m) (dats m) 0 (Pipeline.afterTail pcfgs (fun _ => adm m) (dats m) 0 (V₀ m) [hostOps1]) r
      ∧ r.2.sem = fun _ => 0) :=
  Pipeline.θ_run_frameP_around (Q' := _) pcfgs (fun _ => adm m) (dats m) (0 : Fin 1) launch0 defs₀ Variants.none m ρ main
    (hbody := fun c => (body_obligation m c).loose) (hshare := fun c => (dats m 0 c).share_full fun _ => rfl)
    (howed := fun _ _ => rfl) (V₀ := V₀ m) (opss := [hostOps1]) (hsub := tail_sub)
    (hfresh := fun ops h op hop => by obtain rfl := List.mem_singleton.mp h; exact List.forall_iff_forall_mem.mp hostOps1_fresh op hop)
    (hkeep := tail_keep) (hmain := hmain m Variants.none) (hA := A_eq m) (hpf := V_pre m)
    (hΦ := fun _ _ => rfl)

/-- The contents the later host operations start from: the region's arrays at what the pipeline leaves. -/
abbrev V₁ (c : Dev nD) : Valuation τ sig (Elt F) :=
  Pipeline.withArrays spec0 c (V₀ m c) fun w => (dats m 0 c).arrAt w (cfgM m).N

/-- The later host operations do not write the argument, and no window stages it. -/
theorem tail_arg0 : (hostOps1 : List (HloOp τ sig (Elt F))).Forall fun op => Proc.devRef .tc main_arg0 ∉ op.writes := by
  simp only [List.Forall]
  and_intros
  all_goals
    simp only [StableHlo.nullary_writes, StableHlo.unary_writes, StableHlo.binary_writes, StableHlo.ternary_writes,
      StableHlo.quaternary_writes, StableHlo.reshape_writes, StableHlo.unaryIndexed_writes, Finset.mem_singleton]
    exact StableHlo.devRef_ne_of_ne (by decide)

theorem after_arg0 (c : Dev nD) :
    Pipeline.afterTail pcfgs (fun _ => adm m) (dats m) 0 (V₀ m) [hostOps1] c main_arg0 = m ((c : Thread nD τ).loc main_arg0) := by
  unfold Pipeline.afterTail
  rw [StableHlo.after_of_forall_not_mem _ _ (List.forall_iff_forall_mem.mp (show ([hostOps1] : List (List (HloOp τ sig (Elt F)))).flatten.Forall _ from tail_arg0)),
    Pipeline.withArrays_of_ne _ c (V₀ m c) _ main_arg0 (show ∀ w, Pipeline.arrRef spec0 w ≠ main_arg0 by decide)]
  exact V_arg0 m c

/-- The argument ends as launched, the result as the later host operations compute it from the region's arrays, and
    every semaphore counter is at zero. -/
theorem run_value : θ_run defs (onTc (τ := τ) (main (F := F))) ⟨m, fun _ => 0, ρ⟩ (fun r => (∀ c : Dev nD,
      r.2.mem ((c.tc : Thread nD τ).loc main_v0) = StableHlo.after hostOps1 (V₁ m c) (Proc.devRef .tc main_v0)
      ∧ r.2.mem ((c.tc : Thread nD τ).loc main_arg0) = m ((c.tc : Thread nD τ).loc main_arg0))
      ∧ r.2.sem = fun _ => 0) :=
  (θ_run defs _ _).mono (fun _ h => ⟨fun c => ⟨(h.1 c).2 main_v0 (by decide : main_v0 ∈ Pipeline.restRefs sig spec0),
    ((h.1 c).2 main_arg0 (by decide : main_arg0 ∈ Pipeline.restRefs sig spec0)).trans (after_arg0 m c)⟩, h.2⟩) (run_main m ρ)

/-- THE FRAME: the argument ends as launched and every semaphore counter is at zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  (θ_run defs _ _).mono (fun _ h => ⟨fun c => (h.1 c).2, h.2⟩) (run_value m ρ)

end Cert.KernelIdeal.Km

end
-- ==== Proof.RI.Run.lean ====
module

public import proofs.«01_k».proof.Proof.Gen.ReferenceIdeal
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter
public import Idealize.ShloMosaic.Adequacy

@[expose] public section

noncomputable section

namespace Cert.ReferenceIdeal.Km

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

variable {F : FTy → Type} [FloatOps F]

/-- The table, the points and the table's column. -/
abbrev pre0 : List (HloOp τ sig (Elt F)) :=
  [ StableHlo.nullary main_c (fun i => lit0 (S8x24.rowMajor i)),
    StableHlo.reshape main_arg0 main_v0 (rfl : (.f32 : EltTy) = .f32) shapeCasts_S8x64x64x384_S8x4096x384,
    StableHlo.unary main_c main_v1 (broadcastInDim S8x24x1 ![0, 1] bcast_S8x24_S8x24x1_0_1 : (⟨S8x24, .i32⟩ : BufTy).Contents (Elt F) → (⟨S8x24x1, .i32⟩ : BufTy).Contents (Elt F)) ]
theorem pre0_sub : (pre0 : List (HloOp τ sig (Elt F))).Forall fun op => op.bufs ⊆ StableHlo.tcRefs τ sig :=
  ⟨StableHlo.nullary_bufs_sub .., StableHlo.reshape_bufs_sub .., StableHlo.unary_bufs_sub ..⟩
theorem pre0_fresh : (pre0 : List (HloOp τ sig (Elt F))).Forall fun op => op.fresh = ∅ :=
  StableHlo.forall_fresh_of_map rfl
abbrev pre0_W : List (Ref sig .tc) := [main_c, main_v0, main_v1]
theorem pre0_writes : (pre0 : List (HloOp τ sig (Elt F))).Forall fun op => op.writes ⊆ (pre0_W.map (Proc.devRef (τ := τ) .tc)).toFinset :=
  StableHlo.forall_writes_sub_of_map rfl
/-- @take_along_axis's operations: the rows of x at the table's words. -/
abbrev pre1 : List (HloOp τ sig (Elt F)) :=
  [ StableHlo.TRef.nullary (.of main_call0_c : StableHlo.TRef sig ⟨S_, .i32⟩) (constantI S_ 32 0#32),
    StableHlo.TRef.unary (.of main_call0_c : StableHlo.TRef sig ⟨S_, .i32⟩) (.of main_call0_v0 : StableHlo.TRef sig ⟨S8x24x1, .i32⟩) (broadcastInDim S8x24x1 ![] bcast_S_S8x24x1),
    StableHlo.TRef.binary (.of main_v1 : StableHlo.TRef sig ⟨S8x24x1, .i32⟩) (.of main_call0_v0 : StableHlo.TRef sig ⟨S8x24x1, .i32⟩) (.of main_call0_v1 : StableHlo.TRef sig ⟨S8x24x1, .i1⟩) (cmpi .slt),
    StableHlo.TRef.nullary (.of main_call0_c_0 : StableHlo.TRef sig ⟨S_, .i32⟩) (constantI S_ 32 4096#32),
    StableHlo.TRef.unary (.of main_call0_c_0 : StableHlo.TRef sig ⟨S_, .i32⟩) (.of main_call0_v2 : StableHlo.TRef sig ⟨S8x24x1, .i32⟩) (broadcastInDim S8x24x1 ![] bcast_S_S8x24x1),
    StableHlo.TRef.binary (.of main_v1 : StableHlo.TRef sig ⟨S8x24x1, .i32⟩) (.of main_call0_v2 : StableHlo.TRef sig ⟨S8x24x1, .i32⟩) (.of main_call0_v3 : StableHlo.TRef sig ⟨S8x24x1, .i32⟩) addi,
    StableHlo.TRef.ternary (.of main_call0_v1 : StableHlo.TRef sig ⟨S8x24x1, .i1⟩) (.of main_call0_v3 : StableHlo.TRef sig ⟨S8x24x1, .i32⟩) (.of main_v1 : StableHlo.TRef sig ⟨S8x24x1, .i32⟩) (.of main_call0_v4 : StableHlo.TRef sig ⟨S8x24x1, .i32⟩) select,
    StableHlo.TRef.nullary (.of main_call0_c_1 : StableHlo.TRef sig ⟨S1, .i32⟩) (constantI S1 32 4095#32),
    StableHlo.TRef.nullary (.of main_call0_c_2 : StableHlo.TRef sig ⟨S_, .i32⟩) (constantI S_ 32 0#32),
    StableHlo.TRef.unary (.of main_call0_c_2 : StableHlo.TRef sig ⟨S_, .i32⟩) (.of main_call0_v5 : StableHlo.TRef sig ⟨S8x24x1, .i32⟩) (broadcastInDim S8x24x1 ![] bcast_S_S8x24x1),
    StableHlo.TRef.binary (.of main_call0_v4 : StableHlo.TRef sig ⟨S8x24x1, .i32⟩) (.of main_call0_v5 : StableHlo.TRef sig ⟨S8x24x1, .i32⟩) (.of main_call0_v6 : StableHlo.TRef sig ⟨S8x24x1, .i1⟩) (cmpi .sge),
    StableHlo.TRef.unary (.of main_call0_c_1 : StableHlo.TRef sig ⟨S1, .i32⟩) (.of main_call0_v7 : StableHlo.TRef sig ⟨S1x1x1, .i32⟩) (broadcastInDim S1x1x1 ![2] bcast_S1_S1x1x1_2),
    StableHlo.TRef.unary (.of main_call0_v7 : StableHlo.TRef sig ⟨S1x1x1, .i32⟩) (.of main_call0_v8 : StableHlo.TRef sig ⟨S8x24x1, .i32⟩) (broadcastInDim S8x24x1 ![0, 1, 2] bcast_S1x1x1_S8x24x1_0_1_2),
    StableHlo.TRef.binary (.of main_call0_v4 : StableHlo.TRef sig ⟨S8x24x1, .i32⟩) (.of main_call0_v8 : StableHlo.TRef sig ⟨S8x24x1, .i32⟩) (.of main_call0_v9 : StableHlo.TRef sig ⟨S8x24x1, .i1⟩) (cmpi .sle),
    StableHlo.TRef.binary (.of main_call0_v6 : StableHlo.TRef sig ⟨S8x24x1, .i1⟩) (.of main_call0_v9 : StableHlo.TRef sig ⟨S8x24x1, .i1⟩) (.of main_call0_v10 : StableHlo.TRef sig ⟨S8x24x1, .i1⟩) andi,
    StableHlo.TRef.nullary (.of main_call0_c_3 : StableHlo.TRef sig ⟨S_, .i1⟩) (constantI S_ 1 1#1),
    StableHlo.TRef.binary (.of main_call0_v10 : StableHlo.TRef sig ⟨S8x24x1, .i1⟩) (.of main_call0_c_3 : StableHlo.TRef sig ⟨S_, .i1⟩) (.of main_call0_v11 : StableHlo.TRef sig ⟨S8x24, .i1⟩) (fun x v => Host.reduce IntOp.andi x v reducesTo_S8x24x1_S8x24_d2 h_S_),
    StableHlo.TRef.binary (.of main_v0 : StableHlo.TRef sig ⟨S8x4096x384, .f32⟩) (.of main_call0_v4 : StableHlo.TRef sig ⟨S8x24x1, .i32⟩) (.of main_call0_v12 : StableHlo.TRef sig ⟨S8x24x384, .f32⟩) (fun x i => Host.gather gather_S8x4096x384_S8x24x1_S8x24x384_2_1_0_0_1_2_11384 x i),
    StableHlo.TRef.unary (.of main_call0_v11 : StableHlo.TRef sig ⟨S8x24, .i1⟩) (.of main_call0_v13 : StableHlo.TRef sig ⟨S8x24x384, .i1⟩) (broadcastInDim S8x24x384 ![0, 1] bcast_S8x24_S8x24x384_0_1),
    StableHlo.TRef.nullary (.of main_call0_cst : StableHlo.TRef sig ⟨S_, .f32⟩) (constant S_ .f32 0x7FC00000#32),
    StableHlo.TRef.unary (.of main_call0_cst : StableHlo.TRef sig ⟨S_, .f32⟩) (.of main_call0_v14 : StableHlo.TRef sig ⟨S8x24x384, .f32⟩) (broadcastInDim S8x24x384 ![] bcast_S_S8x24x384),
    StableHlo.TRef.ternary (.of main_call0_v13 : StableHlo.TRef sig ⟨S8x24x384, .i1⟩) (.of main_call0_v12 : StableHlo.TRef sig ⟨S8x24x384, .f32⟩) (.of main_call0_v14 : StableHlo.TRef sig ⟨S8x24x384, .f32⟩) (.of main_v2 : StableHlo.TRef sig ⟨S8x24x384, .f32⟩) select ]
theorem pre1_sub : (pre1 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.unary_bufs_sub .., StableHlo.nullary_bufs_sub .., StableHlo.unary_bufs_sub .., StableHlo.ternary_bufs_sub ..⟩
theorem pre1_fresh : (pre1 : List (HloOp τ sig (Elt F))).Forall fun op => op.fresh = ∅ :=
  StableHlo.forall_fresh_of_map rfl
abbrev pre1_W : List (Ref sig .tc) := [main_call0_c, main_call0_v0, main_call0_v1, main_call0_c_0, main_call0_v2, main_call0_v3, main_call0_v4, main_call0_c_1, main_call0_c_2, main_call0_v5, main_call0_v6, main_call0_v7, main_call0_v8, main_call0_v9, main_call0_v10, main_call0_c_3, main_call0_v11, main_call0_v12, main_call0_v13, main_call0_cst, main_call0_v14, main_v2]
theorem pre1_writes : (pre1 : List (HloOp τ sig (Elt F))).Forall fun op => op.writes ⊆ (pre1_W.map (Proc.devRef (τ := τ) .tc)).toFinset :=
  StableHlo.forall_writes_sub_of_map rfl
/-- The squared norms, and what the loop's carried buffers start at. -/
abbrev pre2 : List (HloOp τ sig (Elt F)) :=
  [ StableHlo.binary main_v0 main_v0 main_v3 (mulf : (⟨S8x4096x384, .f32⟩ : BufTy).Contents (Elt F) → (⟨S8x4096x384, .f32⟩ : BufTy).Contents (Elt F) → (⟨S8x4096x384, .f32⟩ : BufTy).Contents (Elt F)),
    StableHlo.nullary main_cst (constant S_ .f32 0x00000000#32),
    StableHlo.binary main_v3 main_cst main_v4 ((fun x v => Host.reduceAdd x v reducesTo_S8x4096x384_S8x4096_d2 h_S_) : (⟨S8x4096x384, .f32⟩ : BufTy).Contents (Elt F) → (⟨S_, .f32⟩ : BufTy).Contents (Elt F) → (⟨S8x4096, .f32⟩ : BufTy).Contents (Elt F)),
    StableHlo.unary main_v4 main_v5 (broadcastInDim S8x4096x1 ![0, 1] bcast_S8x4096_S8x4096x1_0_1 : (⟨S8x4096, .f32⟩ : BufTy).Contents (Elt F) → (⟨S8x4096x1, .f32⟩ : BufTy).Contents (Elt F)),
    StableHlo.nullary main_c_0 (constantI S_ 32 0#32),
    StableHlo.nullary main_c_1 (constantI S_ 1 0#1),
    StableHlo.nullary main_c_2 (constantI S_ 32 0#32),
    StableHlo.unary main_v5 main_v6_0 id,
    StableHlo.unary main_v0 main_v6_1 id,
    StableHlo.unary main_c_2 main_v6_2 id,
    StableHlo.unary main_c_0 main_v6_3 id,
    StableHlo.unary main_v2 main_v6_4 id,
    StableHlo.unary main_c_1 main_v6_5 id ]
theorem pre2_sub : (pre2 : List (HloOp τ sig (Elt F))).Forall fun op => op.bufs ⊆ StableHlo.tcRefs τ sig :=
  ⟨StableHlo.binary_bufs_sub .., StableHlo.nullary_bufs_sub .., StableHlo.binary_bufs_sub .., StableHlo.unary_bufs_sub .., StableHlo.nullary_bufs_sub .., StableHlo.nullary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub ..⟩
theorem pre2_fresh : (pre2 : List (HloOp τ sig (Elt F))).Forall fun op => op.fresh = ∅ :=
  StableHlo.forall_fresh_of_map rfl
abbrev pre2_W : List (Ref sig .tc) := [main_v3, main_cst, main_v4, main_v5, main_c_0, main_c_1, main_c_2, main_v6_0, main_v6_1, main_v6_2, main_v6_3, main_v6_4, main_v6_5]
theorem pre2_writes : (pre2 : List (HloOp τ sig (Elt F))).Forall fun op => op.writes ⊆ (pre2_W.map (Proc.devRef (τ := τ) .tc)).toFinset :=
  StableHlo.forall_writes_sub_of_map rfl
/-- The squared distances of the points from the centroids. -/
abbrev body0 : List (HloOp τ sig (Elt F)) :=
  [ StableHlo.nullary main_while0b_c_8 (constantI S_ 32 1#32),
    StableHlo.binary main_v6_3 main_while0b_c_8 main_while0b_v7 (addi : (⟨S_, .i32⟩ : BufTy).Contents (Elt F) → (⟨S_, .i32⟩ : BufTy).Contents (Elt F) → (⟨S_, .i32⟩ : BufTy).Contents (Elt F)),
    StableHlo.binary main_v6_4 main_v6_4 main_while0b_v8 (mulf : (⟨S8x24x384, .f32⟩ : BufTy).Contents (Elt F) → (⟨S8x24x384, .f32⟩ : BufTy).Contents (Elt F) → (⟨S8x24x384, .f32⟩ : BufTy).Contents (Elt F)),
    StableHlo.nullary main_while0b_cst_9 (constant S_ .f32 0x00000000#32),
    StableHlo.binary main_while0b_v8 main_while0b_cst_9 main_while0b_v9 ((fun x v => Host.reduceAdd x v reducesTo_S8x24x384_S8x24_d2 h_S_) : (⟨S8x24x384, .f32⟩ : BufTy).Contents (Elt F) → (⟨S_, .f32⟩ : BufTy).Contents (Elt F) → (⟨S8x24, .f32⟩ : BufTy).Contents (Elt F)),
    StableHlo.unary main_while0b_v9 main_while0b_v10 (broadcastInDim S8x1x24 ![0, 2] bcast_S8x24_S8x1x24_0_2 : (⟨S8x24, .f32⟩ : BufTy).Contents (Elt F) → (⟨S8x1x24, .f32⟩ : BufTy).Contents (Elt F)),
    StableHlo.unary main_v6_0 main_while0b_v11 (broadcastInDim S8x4096x24 ![0, 1, 2] bcast_S8x4096x1_S8x4096x24_0_1_2 : (⟨S8x4096x1, .f32⟩ : BufTy).Contents (Elt F) → (⟨S8x4096x24, .f32⟩ : BufTy).Contents (Elt F)),
    StableHlo.unary main_while0b_v10 main_while0b_v12 (broadcastInDim S8x4096x24 ![0, 1, 2] bcast_S8x1x24_S8x4096x24_0_1_2 : (⟨S8x1x24, .f32⟩ : BufTy).Contents (Elt F) → (⟨S8x4096x24, .f32⟩ : BufTy).Contents (Elt F)),
    StableHlo.binary main_while0b_v11 main_while0b_v12 main_while0b_v13 (addf : (⟨S8x4096x24, .f32⟩ : BufTy).Contents (Elt F) → (⟨S8x4096x24, .f32⟩ : BufTy).Contents (Elt F) → (⟨S8x4096x24, .f32⟩ : BufTy).Contents (Elt F)),
    StableHlo.binary main_v6_1 main_v6_4 main_while0b_v14 ((fun l r => Host.dotGeneral dot_S8x4096x384_S8x24x384_S8x4096x24_2_2_1_1_0_0 none l r) : (⟨S8x4096x384, .f32⟩ : BufTy).Contents (Elt F) → (⟨S8x24x384, .f32⟩ : BufTy).Contents (Elt F) → (⟨S8x4096x24, .f32⟩ : BufTy).Contents (Elt F)),
    StableHlo.nullary main_while0b_cst_10 (constant S_ .f32 0x40000000#32),
    StableHlo.unary main_while0b_cst_10 main_while0b_v15 (broadcastInDim S8x4096x24 ![] bcast_S_S8x4096x24 : (⟨S_, .f32⟩ : BufTy).Contents (Elt F) → (⟨S8x4096x24, .f32⟩ : BufTy).Contents (Elt F)),
    StableHlo.binary main_while0b_v15 main_while0b_v14 main_while0b_v16 (mulf : (⟨S8x4096x24, .f32⟩ : BufTy).Contents (Elt F) → (⟨S8x4096x24, .f32⟩ : BufTy).Contents (Elt F) → (⟨S8x4096x24, .f32⟩ : BufTy).Contents (Elt F)),
    StableHlo.binary main_while0b_v13 main_while0b_v16 main_while0b_v17 (subf : (⟨S8x4096x24, .f32⟩ : BufTy).Contents (Elt F) → (⟨S8x4096x24, .f32⟩ : BufTy).Contents (Elt F) → (⟨S8x4096x24, .f32⟩ : BufTy).Contents (Elt F)) ]
theorem body0_sub : (body0 : List (HloOp τ sig (Elt F))).Forall fun op => op.bufs ⊆ StableHlo.tcRefs τ sig :=
  ⟨StableHlo.nullary_bufs_sub .., StableHlo.binary_bufs_sub .., StableHlo.binary_bufs_sub .., StableHlo.nullary_bufs_sub .., StableHlo.binary_bufs_sub .., StableHlo.unary_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub ..⟩
theorem body0_fresh : (body0 : List (HloOp τ sig (Elt F))).Forall fun op => op.fresh = ∅ :=
  StableHlo.forall_fresh_of_map rfl
abbrev body0_W : List (Ref sig .tc) := [main_while0b_c_8, main_while0b_v7, main_while0b_v8, main_while0b_cst_9, main_while0b_v9, main_while0b_v10, main_while0b_v11, main_while0b_v12, main_while0b_v13, main_while0b_v14, main_while0b_cst_10, main_while0b_v15, main_while0b_v16, main_while0b_v17]
theorem body0_writes : (body0 : List (HloOp τ sig (Elt F))).Forall fun op => op.writes ⊆ (body0_W.map (Proc.devRef (τ := τ) .tc)).toFinset :=
  StableHlo.forall_writes_sub_of_map rfl
/-- @argmin's operations. -/
abbrev body1 : List (HloOp τ sig (Elt F)) :=
  [ StableHlo.TRef.nullary (.of main_while0b_call1_v0 : StableHlo.TRef sig ⟨S8x4096x24, .i32⟩) (iotaInDim S8x4096x24 32 2),
    StableHlo.TRef.nullary (.of main_while0b_call1_cst : StableHlo.TRef sig ⟨S_, .f32⟩) (constant S_ .f32 0x7F800000#32),
    StableHlo.TRef.nullary (.of main_while0b_call1_c : StableHlo.TRef sig ⟨S_, .i32⟩) (constantI S_ 32 0#32),
    StableHlo.TRef.quaternary (.of main_while0b_v17 : StableHlo.TRef sig ⟨S8x4096x24, .f32⟩) (.of main_while0b_call1_v0 : StableHlo.TRef sig ⟨S8x4096x24, .i32⟩) (.of main_while0b_call1_cst : StableHlo.TRef sig ⟨S_, .f32⟩) (.of main_while0b_call1_c : StableHlo.TRef sig ⟨S_, .i32⟩) (.of main_while0b_call1_v1_0 : StableHlo.TRef sig ⟨S8x4096, .f32⟩) (fun x y u v j => (Host.argReduce reducer_argmin_f32_i32 x y u v reducesTo_S8x4096x24_S8x4096_d2 h_S_ j).1),
    StableHlo.TRef.quaternary (.of main_while0b_v17 : StableHlo.TRef sig ⟨S8x4096x24, .f32⟩) (.of main_while0b_call1_v0 : StableHlo.TRef sig ⟨S8x4096x24, .i32⟩) (.of main_while0b_call1_cst : StableHlo.TRef sig ⟨S_, .f32⟩) (.of main_while0b_call1_c : StableHlo.TRef sig ⟨S_, .i32⟩) (.of main_while0b_v18 : StableHlo.TRef sig ⟨S8x4096, .i32⟩) (fun x y u v j => (Host.argReduce reducer_argmin_f32_i32 x y u v reducesTo_S8x4096x24_S8x4096_d2 h_S_ j).2) ]
theorem body1_sub : (body1 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩
theorem body1_fresh : (body1 : List (HloOp τ sig (Elt F))).Forall fun op => op.fresh = ∅ :=
  StableHlo.forall_fresh_of_map rfl
abbrev body1_W : List (Ref sig .tc) := [main_while0b_call1_v0, main_while0b_call1_cst, main_while0b_call1_c, main_while0b_call1_v1_0, main_while0b_v18]
theorem body1_writes : (body1 : List (HloOp τ sig (Elt F))).Forall fun op => op.writes ⊆ (body1_W.map (Proc.devRef (τ := τ) .tc)).toFinset :=
  StableHlo.forall_writes_sub_of_map rfl
/-- @_one_hot's operations. -/
abbrev body2 : List (HloOp τ sig (Elt F)) :=
  [ StableHlo.TRef.unary (.of main_while0b_v18 : StableHlo.TRef sig ⟨S8x4096, .i32⟩) (.of main_while0b_call2_v0 : StableHlo.TRef sig ⟨S8x4096x1, .i32⟩) (broadcastInDim S8x4096x1 ![0, 1] bcast_S8x4096_S8x4096x1_0_1),
    StableHlo.TRef.nullary (.of main_while0b_call2_v1 : StableHlo.TRef sig ⟨S1x1x24, .i32⟩) (iotaInDim S1x1x24 32 2),
    StableHlo.TRef.unary (.of main_while0b_call2_v0 : StableHlo.TRef sig ⟨S8x4096x1, .i32⟩) (.of main_while0b_call2_v2 : StableHlo.TRef sig ⟨S8x4096x24, .i32⟩) (broadcastInDim S8x4096x24 ![0, 1, 2] bcast_S8x4096x1_S8x4096x24_0_1_2),
    StableHlo.TRef.unary (.of main_while0b_call2_v1 : StableHlo.TRef sig ⟨S1x1x24, .i32⟩) (.of main_while0b_call2_v3 : StableHlo.TRef sig ⟨S8x4096x24, .i32⟩) (broadcastInDim S8x4096x24 ![0, 1, 2] bcast_S1x1x24_S8x4096x24_0_1_2),
    StableHlo.TRef.binary (.of main_while0b_call2_v2 : StableHlo.TRef sig ⟨S8x4096x24, .i32⟩) (.of main_while0b_call2_v3 : StableHlo.TRef sig ⟨S8x4096x24, .i32⟩) (.of main_while0b_call2_v4 : StableHlo.TRef sig ⟨S8x4096x24, .i1⟩) (cmpi .eq),
    StableHlo.TRef.unary (.of main_while0b_call2_v4 : StableHlo.TRef sig ⟨S8x4096x24, .i1⟩) (.of main_while0b_v19 : StableHlo.TRef sig ⟨S8x4096x24, .f32⟩) (uitofp .f32) ]
theorem body2_sub : (body2 : List (HloOp τ sig (Elt F))).Forall fun op => op.bufs ⊆ StableHlo.tcRefs τ sig :=
  ⟨StableHlo.unary_bufs_sub .., StableHlo.nullary_bufs_sub .., StableHlo.unary_bufs_sub .., StableHlo.unary_bufs_sub .., StableHlo.binary_bufs_sub .., StableHlo.unary_bufs_sub ..⟩
theorem body2_fresh : (body2 : List (HloOp τ sig (Elt F))).Forall fun op => op.fresh = ∅ :=
  StableHlo.forall_fresh_of_map rfl
abbrev body2_W : List (Ref sig .tc) := [main_while0b_call2_v0, main_while0b_call2_v1, main_while0b_call2_v2, main_while0b_call2_v3, main_while0b_call2_v4, main_while0b_v19]
theorem body2_writes : (body2 : List (HloOp τ sig (Elt F))).Forall fun op => op.writes ⊆ (body2_W.map (Proc.devRef (τ := τ) .tc)).toFinset :=
  StableHlo.forall_writes_sub_of_map rfl
/-- The counts, the sums, and their quotient. -/
abbrev body3 : List (HloOp τ sig (Elt F)) :=
  [ StableHlo.nullary main_while0b_cst_11 (constant S_ .f32 0x00000000#32),
    StableHlo.binary main_while0b_v19 main_while0b_cst_11 main_while0b_v20 ((fun x v => Host.reduceAdd x v reducesTo_S8x4096x24_S8x24_d1 h_S_) : (⟨S8x4096x24, .f32⟩ : BufTy).Contents (Elt F) → (⟨S_, .f32⟩ : BufTy).Contents (Elt F) → (⟨S8x24, .f32⟩ : BufTy).Contents (Elt F)),
    StableHlo.binary main_while0b_v19 main_v6_1 main_while0b_v21 ((fun l r => Host.dotGeneral dot_S8x4096x24_S8x4096x384_S8x24x384_1_1_2_2_0_0 none l r) : (⟨S8x4096x24, .f32⟩ : BufTy).Contents (Elt F) → (⟨S8x4096x384, .f32⟩ : BufTy).Contents (Elt F) → (⟨S8x24x384, .f32⟩ : BufTy).Contents (Elt F)),
    StableHlo.unary main_while0b_v20 main_while0b_v22 (broadcastInDim S8x24x1 ![0, 1] bcast_S8x24_S8x24x1_0_1 : (⟨S8x24, .f32⟩ : BufTy).Contents (Elt F) → (⟨S8x24x1, .f32⟩ : BufTy).Contents (Elt F)),
    StableHlo.nullary main_while0b_cst_12 (constant S_ .f32 0x00000000#32),
    StableHlo.unary main_while0b_cst_12 main_while0b_v23 (broadcastInDim S8x24x1 ![] bcast_S_S8x24x1 : (⟨S_, .f32⟩ : BufTy).Contents (Elt F) → (⟨S8x24x1, .f32⟩ : BufTy).Contents (Elt F)),
    StableHlo.binary main_while0b_v22 main_while0b_v23 main_while0b_v24 (cmpf .ogt : (⟨S8x24x1, .f32⟩ : BufTy).Contents (Elt F) → (⟨S8x24x1, .f32⟩ : BufTy).Contents (Elt F) → (⟨S8x24x1, .i1⟩ : BufTy).Contents (Elt F)),
    StableHlo.unary main_while0b_v20 main_while0b_v25 (broadcastInDim S8x24x1 ![0, 1] bcast_S8x24_S8x24x1_0_1 : (⟨S8x24, .f32⟩ : BufTy).Contents (Elt F) → (⟨S8x24x1, .f32⟩ : BufTy).Contents (Elt F)),
    StableHlo.nullary main_while0b_cst_13 (constant S_ .f32 0x3F800000#32),
    StableHlo.unary main_while0b_cst_13 main_while0b_v26 (broadcastInDim S8x24x1 ![] bcast_S_S8x24x1 : (⟨S_, .f32⟩ : BufTy).Contents (Elt F) → (⟨S8x24x1, .f32⟩ : BufTy).Contents (Elt F)),
    StableHlo.binary main_while0b_v25 main_while0b_v26 main_while0b_v27 (maximumf : (⟨S8x24x1, .f32⟩ : BufTy).Contents (Elt F) → (⟨S8x24x1, .f32⟩ : BufTy).Contents (Elt F) → (⟨S8x24x1, .f32⟩ : BufTy).Contents (Elt F)),
    StableHlo.unary main_while0b_v27 main_while0b_v28 (broadcastInDim S8x24x384 ![0, 1, 2] bcast_S8x24x1_S8x24x384_0_1_2 : (⟨S8x24x1, .f32⟩ : BufTy).Contents (Elt F) → (⟨S8x24x384, .f32⟩ : BufTy).Contents (Elt F)),
    StableHlo.binary main_while0b_v21 main_while0b_v28 main_while0b_v29 (Host.divf : (⟨S8x24x384, .f32⟩ : BufTy).Contents (Elt F) → (⟨S8x24x384, .f32⟩ : BufTy).Contents (Elt F) → (⟨S8x24x384, .f32⟩ : BufTy).Contents (Elt F)) ]
theorem body3_sub : (body3 : List (HloOp τ sig (Elt F))).Forall fun op => op.bufs ⊆ StableHlo.tcRefs τ sig :=
  ⟨StableHlo.nullary_bufs_sub .., StableHlo.binary_bufs_sub .., StableHlo.binary_bufs_sub .., StableHlo.unary_bufs_sub .., StableHlo.nullary_bufs_sub .., StableHlo.unary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub ..⟩
theorem body3_fresh : (body3 : List (HloOp τ sig (Elt F))).Forall fun op => op.fresh = ∅ :=
  StableHlo.forall_fresh_of_map rfl
abbrev body3_W : List (Ref sig .tc) := [main_while0b_cst_11, main_while0b_v20, main_while0b_v21, main_while0b_v22, main_while0b_cst_12, main_while0b_v23, main_while0b_v24, main_while0b_v25, main_while0b_cst_13, main_while0b_v26, main_while0b_v27, main_while0b_v28, main_while0b_v29]
theorem body3_writes : (body3 : List (HloOp τ sig (Elt F))).Forall fun op => op.writes ⊆ (body3_W.map (Proc.devRef (τ := τ) .tc)).toFinset :=
  StableHlo.forall_writes_sub_of_map rfl
/-- @_where's operations: an empty cluster keeps its centroid. -/
abbrev body4 : List (HloOp τ sig (Elt F)) :=
  [ StableHlo.TRef.unary (.of main_while0b_v24 : StableHlo.TRef sig ⟨S8x24x1, .i1⟩) (.of main_while0b_call3_v0 : StableHlo.TRef sig ⟨S8x24x384, .i1⟩) (broadcastInDim S8x24x384 ![0, 1, 2] bcast_S8x24x1_S8x24x384_0_1_2),
    StableHlo.TRef.ternary (.of main_while0b_call3_v0 : StableHlo.TRef sig ⟨S8x24x384, .i1⟩) (.of main_while0b_v29 : StableHlo.TRef sig ⟨S8x24x384, .f32⟩) (.of main_v6_4 : StableHlo.TRef sig ⟨S8x24x384, .f32⟩) (.of main_while0b_v30 : StableHlo.TRef sig ⟨S8x24x384, .f32⟩) select ]
theorem body4_sub : (body4 : List (HloOp τ sig (Elt F))).Forall fun op => op.bufs ⊆ StableHlo.tcRefs τ sig :=
  ⟨StableHlo.unary_bufs_sub .., StableHlo.ternary_bufs_sub ..⟩
theorem body4_fresh : (body4 : List (HloOp τ sig (Elt F))).Forall fun op => op.fresh = ∅ :=
  StableHlo.forall_fresh_of_map rfl
abbrev body4_W : List (Ref sig .tc) := [main_while0b_call3_v0, main_while0b_v30]
theorem body4_writes : (body4 : List (HloOp τ sig (Elt F))).Forall fun op => op.writes ⊆ (body4_W.map (Proc.devRef (τ := τ) .tc)).toFinset :=
  StableHlo.forall_writes_sub_of_map rfl
/-- The shift. -/
abbrev body5 : List (HloOp τ sig (Elt F)) :=
  [ StableHlo.binary main_while0b_v30 main_v6_4 main_while0b_v31 (subf : (⟨S8x24x384, .f32⟩ : BufTy).Contents (Elt F) → (⟨S8x24x384, .f32⟩ : BufTy).Contents (Elt F) → (⟨S8x24x384, .f32⟩ : BufTy).Contents (Elt F)),
    StableHlo.binary main_while0b_v31 main_while0b_v31 main_while0b_v32 (mulf : (⟨S8x24x384, .f32⟩ : BufTy).Contents (Elt F) → (⟨S8x24x384, .f32⟩ : BufTy).Contents (Elt F) → (⟨S8x24x384, .f32⟩ : BufTy).Contents (Elt F)),
    StableHlo.nullary main_while0b_cst_14 (constant S_ .f32 0x00000000#32),
    StableHlo.binary main_while0b_v32 main_while0b_cst_14 main_while0b_v33 ((fun x v => Host.reduceAdd x v reducesTo_S8x24x384_S8x24_d2 h_S_) : (⟨S8x24x384, .f32⟩ : BufTy).Contents (Elt F) → (⟨S_, .f32⟩ : BufTy).Contents (Elt F) → (⟨S8x24, .f32⟩ : BufTy).Contents (Elt F)),
    StableHlo.nullary main_while0b_cst_15 (constant S_ .f32 0x00000000#32),
    StableHlo.binary main_while0b_v33 main_while0b_cst_15 main_while0b_v34 ((fun x v => Host.reduceAdd x v reducesTo_S8x24_S_d0_1 h_S_) : (⟨S8x24, .f32⟩ : BufTy).Contents (Elt F) → (⟨S_, .f32⟩ : BufTy).Contents (Elt F) → (⟨S_, .f32⟩ : BufTy).Contents (Elt F)),
    StableHlo.nullary main_while0b_cst_16 (constant S_ .f32 0x43400000#32),
    StableHlo.binary main_while0b_v34 main_while0b_cst_16 main_while0b_v35 (Host.divf : (⟨S_, .f32⟩ : BufTy).Contents (Elt F) → (⟨S_, .f32⟩ : BufTy).Contents (Elt F) → (⟨S_, .f32⟩ : BufTy).Contents (Elt F)) ]
theorem body5_sub : (body5 : List (HloOp τ sig (Elt F))).Forall fun op => op.bufs ⊆ StableHlo.tcRefs τ sig :=
  ⟨StableHlo.binary_bufs_sub .., StableHlo.binary_bufs_sub .., StableHlo.nullary_bufs_sub .., StableHlo.binary_bufs_sub .., StableHlo.nullary_bufs_sub .., StableHlo.binary_bufs_sub .., StableHlo.nullary_bufs_sub .., StableHlo.binary_bufs_sub ..⟩
theorem body5_fresh : (body5 : List (HloOp τ sig (Elt F))).Forall fun op => op.fresh = ∅ :=
  StableHlo.forall_fresh_of_map rfl
abbrev body5_W : List (Ref sig .tc) := [main_while0b_v31, main_while0b_v32, main_while0b_cst_14, main_while0b_v33, main_while0b_cst_15, main_while0b_v34, main_while0b_cst_16, main_while0b_v35]
theorem body5_writes : (body5 : List (HloOp τ sig (Elt F))).Forall fun op => op.writes ⊆ (body5_W.map (Proc.devRef (τ := τ) .tc)).toFinset :=
  StableHlo.forall_writes_sub_of_map rfl
/-- @_where_0's operation: a finished loop keeps its centroids. -/
abbrev body6 : List (HloOp τ sig (Elt F)) :=
  [ StableHlo.TRef.ternary (.of main_v6_5 : StableHlo.TRef sig ⟨S_, .i1⟩) (.of main_v6_4 : StableHlo.TRef sig ⟨S8x24x384, .f32⟩) (.of main_while0b_v30 : StableHlo.TRef sig ⟨S8x24x384, .f32⟩) (.of main_while0b_v36 : StableHlo.TRef sig ⟨S8x24x384, .f32⟩) (fun p a b => select (broadcastInDim S8x24x384 ![] bcast_S_S8x24x384 p) a b) ]
theorem body6_sub : (body6 : List (HloOp τ sig (Elt F))).Forall fun op => op.bufs ⊆ StableHlo.tcRefs τ sig :=
  StableHlo.ternary_bufs_sub ..
theorem body6_fresh : (body6 : List (HloOp τ sig (Elt F))).Forall fun op => op.fresh = ∅ :=
  StableHlo.forall_fresh_of_map rfl
abbrev body6_W : List (Ref sig .tc) := [main_while0b_v36]
theorem body6_writes : (body6 : List (HloOp τ sig (Elt F))).Forall fun op => op.writes ⊆ (body6_W.map (Proc.devRef (τ := τ) .tc)).toFinset :=
  StableHlo.forall_writes_sub_of_map rfl
/-- The done flag, the counter, and the carried buffers. -/
abbrev body7 : List (HloOp τ sig (Elt F)) :=
  [ StableHlo.nullary main_while0b_cst_17 (constant S_ .f32 0x358637BD#32),
    StableHlo.binary main_while0b_v35 main_while0b_cst_17 main_while0b_v37 (cmpf .ole : (⟨S_, .f32⟩ : BufTy).Contents (Elt F) → (⟨S_, .f32⟩ : BufTy).Contents (Elt F) → (⟨S_, .i1⟩ : BufTy).Contents (Elt F)),
    StableHlo.binary main_v6_5 main_while0b_v37 main_while0b_v38 (ori : (⟨S_, .i1⟩ : BufTy).Contents (Elt F) → (⟨S_, .i1⟩ : BufTy).Contents (Elt F) → (⟨S_, .i1⟩ : BufTy).Contents (Elt F)),
    StableHlo.nullary main_while0b_c_18 (constantI S_ 32 1#32),
    StableHlo.binary main_v6_2 main_while0b_c_18 main_while0b_v39 (addi : (⟨S_, .i32⟩ : BufTy).Contents (Elt F) → (⟨S_, .i32⟩ : BufTy).Contents (Elt F) → (⟨S_, .i32⟩ : BufTy).Contents (Elt F)),
    StableHlo.unary main_while0b_v39 main_v6_2 id,
    StableHlo.unary main_while0b_v7 main_v6_3 id,
    StableHlo.unary main_while0b_v36 main_v6_4 id,
    StableHlo.unary main_while0b_v38 main_v6_5 id ]
theorem body7_sub : (body7 : List (HloOp τ sig (Elt F))).Forall fun op => op.bufs ⊆ StableHlo.tcRefs τ sig :=
  ⟨StableHlo.nullary_bufs_sub .., StableHlo.binary_bufs_sub .., StableHlo.binary_bufs_sub .., StableHlo.nullary_bufs_sub .., StableHlo.binary_bufs_sub .., StableHlo.unary_bufs_sub .., StableHlo.unary_bufs_sub .., StableHlo.unary_bufs_sub .., StableHlo.unary_bufs_sub ..⟩
theorem body7_fresh : (body7 : List (HloOp τ sig (Elt F))).Forall fun op => op.fresh = ∅ :=
  StableHlo.forall_fresh_of_map rfl
abbrev body7_W : List (Ref sig .tc) := [main_while0b_cst_17, main_while0b_v37, main_while0b_v38, main_while0b_c_18, main_while0b_v39, main_v6_2, main_v6_3, main_v6_4, main_v6_5]
theorem body7_writes : (body7 : List (HloOp τ sig (Elt F))).Forall fun op => op.writes ⊆ (body7_W.map (Proc.devRef (τ := τ) .tc)).toFinset :=
  StableHlo.forall_writes_sub_of_map rfl
/-- The reference is its stretches in order, then the loop. -/
theorem main_chain (c : Dev nD) : main (F := F) c = (Pipeline.chain
  [ StableHlo.seq pre0, StableHlo.seq pre1, StableHlo.seq pre2, HostLoop.enter 0 ] : Prog (TpuEff nD τ sig (Elt F) (HostLoop.Sig (Pipeline.Sig Λ₀ (Fin 0) fun p => (pcfgs (F := F) p).Adm) 1) .tc) PUnit) := by
  rewrite [StableHlo.chain_seq_cons, Pipeline.chain_cons, StableHlo.chain_seq_cons, Pipeline.chain_cons]
  chain_rfl

/-- One trip of the loop is its stretches in order. -/
theorem body_chain : main_while0_body (F := F) = (Pipeline.chain
  [ StableHlo.seq body0, StableHlo.seq body1, StableHlo.seq body2, StableHlo.seq body3, StableHlo.seq body4, StableHlo.seq body5, StableHlo.seq body6, StableHlo.seq body7 ] : Prog (TpuEff nD τ sig (Elt F) (HostLoop.Sig (Pipeline.Sig Λ₀ (Fin 0) fun p => (pcfgs (F := F) p).Adm) 1) .tc) PUnit) := by
  rewrite [StableHlo.chain_seq_cons, Pipeline.chain_cons, Pipeline.chain_cons, StableHlo.chain_seq_cons, Pipeline.chain_cons, StableHlo.chain_seq_cons, Pipeline.chain_cons, StableHlo.chain_seq_cons]
  chain_rfl

/-- The exit test's two operations. -/
abbrev condOps : List (HloOp τ sig (Elt F)) :=
  [ StableHlo.nullary main_while0c_c_8 (constantI S_ 32 20#32),
    StableHlo.binary main_v6_2 main_while0c_c_8 main_while0c_v7 (cmpi .slt) ]
abbrev condOps_W : List (Ref sig .tc) := [main_while0c_c_8, main_while0c_v7]
theorem condOps_writes : (condOps : List (HloOp τ sig (Elt F))).Forall fun op => op.writes ⊆ (condOps_W.map (Proc.devRef (τ := τ) .tc)).toFinset :=
  StableHlo.forall_writes_sub_of_map rfl

abbrev preI : List (List (HloOp τ sig (Elt F))) := [pre0, pre1, pre2]
abbrev bodyI : List (List (HloOp τ sig (Elt F))) := [body0, body1, body2, body3, body4, body5, body6, body7]
abbrev postI : List (List (HloOp τ sig (Elt F))) := []

theorem hpre : Plain (preI (F := F)) := (.cons pre0_sub (hf := List.forall_iff_forall_mem.mp pre0_fresh) (.cons pre1_sub (hf := List.forall_iff_forall_mem.mp pre1_fresh) (.cons pre2_sub (hf := List.forall_iff_forall_mem.mp pre2_fresh) (.nil))))
theorem hbodyI : Plain (bodyI (F := F)) := (.cons body0_sub (hf := List.forall_iff_forall_mem.mp body0_fresh) (.cons body1_sub (hf := List.forall_iff_forall_mem.mp body1_fresh) (.cons body2_sub (hf := List.forall_iff_forall_mem.mp body2_fresh) (.cons body3_sub (hf := List.forall_iff_forall_mem.mp body3_fresh) (.cons body4_sub (hf := List.forall_iff_forall_mem.mp body4_fresh) (.cons body5_sub (hf := List.forall_iff_forall_mem.mp body5_fresh) (.cons body6_sub (hf := List.forall_iff_forall_mem.mp body6_fresh) (.cons body7_sub (hf := List.forall_iff_forall_mem.mp body7_fresh) (.nil)))))))))
theorem hpost : Plain (postI (F := F)) := .nil

variable (m : (ℓ : Loc nD τ sig) → Buf (Elt F) ℓ) (ρ : Dev nD → PrngReg)

/-- Every buffer's contents before the exit test of trip `k`. -/
abbrev atK (k : ℕ) (c : Dev nD) : Valuation τ sig (Elt F) := atTrip condOps bodyI (entryContents preI m) k c

/-- What a stretch writes none of, it keeps. -/
theorem keep {ops : List (HloOp τ sig (Elt F))} {W : List (Ref sig .tc)} (hw : ops.Forall fun op => op.writes ⊆ (W.map (Proc.devRef (τ := τ) .tc)).toFinset)
    (V : Valuation τ sig (Elt F)) (b : Ref sig .tc) (hb : b ∉ W) :
    after ops V (Proc.devRef .tc b) = V (Proc.devRef .tc b) :=
  after_of_writes_sub ops V hw hb

/-- The counter starts at 0. -/
theorem ctr_entry (c : Dev nD) : atK m 0 c (Proc.devRef .tc main_v6_2) HostLoop.idx0 = 0#32 := by
  rw [show atK m 0 c = entryContents preI m c from rfl]
  simp only [entryContents, afterL_cons, afterL_nil]
  after_reads_simp
  rfl

/-- One trip adds 1 to the counter. -/
theorem ctr_trip (V : Valuation τ sig (Elt F)) :
    (afterL bodyI (after condOps V) (Proc.devRef .tc main_v6_2) HostLoop.idx0 : BitVec 32)
      = IntOp.addi (V (Proc.devRef .tc main_v6_2) HostLoop.idx0 : BitVec 32) 1#32 := by
  simp only [afterL_cons, afterL_nil]
  have h7 : ∀ X : Valuation τ sig (Elt F), (after body7 X (Proc.devRef .tc main_v6_2) HostLoop.idx0 : BitVec 32)
      = IntOp.addi (X (Proc.devRef .tc main_v6_2) HostLoop.idx0 : BitVec 32) 1#32 := by
    intro X
    after_reads_simp
    rfl
  rw [h7, keep body6_writes _ main_v6_2 (by decide +kernel), keep body5_writes _ main_v6_2 (by decide +kernel),
    keep body4_writes _ main_v6_2 (by decide +kernel), keep body3_writes _ main_v6_2 (by decide +kernel),
    keep body2_writes _ main_v6_2 (by decide +kernel), keep body1_writes _ main_v6_2 (by decide +kernel),
    keep body0_writes _ main_v6_2 (by decide +kernel), keep condOps_writes _ main_v6_2 (by decide +kernel)]

/-- The counter's word before trip `k`. -/
theorem atK_ctr (c : Dev nD) : ∀ k, atK m k c (Proc.devRef .tc main_v6_2) HostLoop.idx0 = Scf.iv 0#32 1#32 k
  | 0 => (ctr_entry m c).trans (Scf.iv_zero _ _).symm
  | k + 1 => by
    rw [show atK m (k + 1) c = afterL bodyI (after condOps (atK m k c)) from rfl]
    exact (ctr_trip _).trans (by rw [atK_ctr c k]; exact (Scf.iv_succ _ _ _).symm)

set_option backward.isDefEq.respectTransparency.types false in
/-- The exit test before trip `k` reads true exactly when `k < 20`. -/
theorem cond_spec : CondSpec (pcfgs (F := F)) defs₀ loops main_while0_cond condOps bodyI (entryContents preI m) 20 := by
  intro k hk c bd
  have hctr := atK_ctr m c k
  unfold main_while0_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atK m k c) main_v6_2 HostLoop.idx0)
        (HloOp.result _ (atK m k c) main_while0c_c_8 HostLoop.idx0) = 1#1) (k < 20)
    rw [nullary_result_ne _ _ _ _ (by decide), nullary_result, hctr]
    exact Scf.cmpi_slt_iv_ub_iff (lb := 0#32) (ub := 20#32) (st := 1#32) (by decide) (show k ≤ Scf.trips 0#32 20#32 1#32 from hk)
  isplitl [Hb]; · iexact Hb
  rw [after_cons, after_cons, after_nil]; iexact Hh

set_option maxRecDepth 100000 in
/-- The run: from any memory with zero counters it ends, each buffer at the fold of the operations over 20 trips. -/
theorem run_fold : θ_run (defs (F := F)) (onTc (τ := τ) (main (F := F))) ⟨m, fun _ => 0, ρ⟩ fun r => ∀ c : Dev nD, ∀ b : Ref sig .tc, (Proc.devRef .tc b : DevRef τ sig).isScoped = false →
      r.2.mem ((c.tc : Thread nD τ).loc b) = finalContents condOps preI bodyI postI 20 m c (Proc.devRef .tc b) :=
  run_loop (pcfgs (F := F)) defs₀ loops main 0 main_while0_cond main_while0_body rfl preI bodyI postI condOps hpre hbodyI hpost
    (fun c => by rw [main_chain]; rfl) (by rw [body_chain]; rfl) 20 m ρ (cond_spec m)

/-- One trip keeps the argument. -/
theorem arg_trip (V : Valuation τ sig (Elt F)) :
    afterL bodyI (after condOps V) (Proc.devRef .tc main_arg0) = V (Proc.devRef .tc main_arg0) := by
  simp only [afterL_cons, afterL_nil]
  rw [keep body7_writes _ main_arg0 (by decide +kernel), keep body6_writes _ main_arg0 (by decide +kernel), keep body5_writes _ main_arg0 (by decide +kernel), keep body4_writes _ main_arg0 (by decide +kernel), keep body3_writes _ main_arg0 (by decide +kernel), keep body2_writes _ main_arg0 (by decide +kernel), keep body1_writes _ main_arg0 (by decide +kernel), keep body0_writes _ main_arg0 (by decide +kernel),
    keep condOps_writes _ main_arg0 (by decide +kernel)]

/-- The argument is held throughout. -/
theorem atK_arg0 (c : Dev nD) : ∀ k, atK m k c (Proc.devRef .tc main_arg0) = m ((c.tc : Thread nD τ).loc main_arg0)
  | 0 => by
    rw [show atK m 0 c = entryContents preI m c from rfl]
    simp only [entryContents, afterL_cons, afterL_nil]
    rw [keep pre2_writes _ main_arg0 (by decide +kernel), keep pre1_writes _ main_arg0 (by decide +kernel), keep pre0_writes _ main_arg0 (by decide +kernel)]
  | k + 1 => (arg_trip _).trans (atK_arg0 c k)

/-- The run with its result: the centroids after 20 trips, the argument unchanged, the counters zero. -/
theorem run_value : θ_run (defs (F := F)) (onTc (τ := τ) (main (F := F))) ⟨m, fun _ => 0, ρ⟩ fun r =>
      (∀ c : Dev nD, r.2.mem ((c.tc : Thread nD τ).loc main_v6_4) = atK m 20 c (Proc.devRef .tc main_v6_4)
        ∧ r.2.mem ((c.tc : Thread nD τ).loc main_arg0) = m ((c.tc : Thread nD τ).loc main_arg0)) ∧ r.2.sem = fun _ => 0 :=
  (θ_run defs _ _).mono (fun r h => ⟨fun c => ⟨(h c main_v6_4 rfl).trans (keep condOps_writes _ main_v6_4 (by decide +kernel)),
      (h c main_arg0 rfl).trans ((keep condOps_writes _ main_arg0 (by decide +kernel)).trans (atK_arg0 m c 20))⟩,
    sem_eq_zero_of_no_sems (by decide) r.2⟩) (run_fold m ρ)

end Cert.ReferenceIdeal.Km

end
-- ==== Proof.V.Math.lean ====
/-
  The mathematics both programs compute, over the extended reals.

  One step of the clustering, of one batch element: every point's nearest centroid (the first one, where several are
  equally near), the mean of each cluster's points, and how far the centroids moved. Then the two ways in which the
  programs find the first nearest centroid: as the least index at the least distance, and as a fold that keeps the
  smaller of two pairs.
-/
module

public import Idealize.ShloMosaic.Lib.Pointwise
public import Idealize.ShloMosaic.PureOps.Ideal
public import Idealize.ShloMosaic.PureOps.Reduce

@[expose] public section

noncomputable section

namespace Cert.KMeans

open Idealize.ShloMosaic

/-- The points of one batch element, and its centroids. -/
abbrev Pts : Type := Fin 4096 → Fin 384 → EReal
abbrev Cents : Type := Fin 24 → Fin 384 → EReal

/-- `k` is the first index at which `f` is least. -/
def First (f : Fin 24 → EReal) (k : Fin 24) : Prop := (∀ k', f k ≤ f k') ∧ ∀ k', k' < k → f k < f k'

/-- There is one. -/
theorem exists_first (f : Fin 24 → EReal) : ∃ k, First f k := by
  classical
  obtain ⟨k₁, -, h₁⟩ := Finset.exists_min_image Finset.univ f ⟨0, Finset.mem_univ 0⟩
  have hne : (Finset.univ.filter fun k => ∀ k', f k ≤ f k').Nonempty :=
    ⟨k₁, Finset.mem_filter.mpr ⟨Finset.mem_univ _, fun k' => h₁ k' (Finset.mem_univ _)⟩⟩
  refine ⟨Finset.min' _ hne, (Finset.mem_filter.mp (Finset.min'_mem _ hne)).2, fun k' hk' => ?_⟩
  refine lt_of_not_ge fun hle => ?_
  refine absurd (Finset.min'_le _ k' (Finset.mem_filter.mpr ⟨Finset.mem_univ _, fun k'' => hle.trans ?_⟩)) (not_le.mpr hk')
  exact (Finset.mem_filter.mp (Finset.min'_mem _ hne)).2 k''

/-- There is only one. -/
theorem First.unique {f : Fin 24 → EReal} {k k' : Fin 24} (h : First f k) (h' : First f k') : k = k' := by
  rcases lt_trichotomy k k' with hl | he | hg
  · exact absurd (h'.2 k hl) (not_lt.mpr (h.1 k'))
  · exact he
  · exact absurd (h.2 k' hg) (not_lt.mpr (h'.1 k))

/-- The squared distance of point `n` from centroid `k`. -/
def dist (p : Pts) (c : Cents) (n : Fin 4096) (k : Fin 24) : EReal :=
  ((∑ j, p n j * p n j) + ∑ j, c k j * c k j) - Ideal.ofBits .f32 0x40000000#32 * ∑ j, c k j * p n j

open Classical in
/-- 1 where centroid `k` is the first nearest one of point `n`, else 0. -/
def hot (p : Pts) (c : Cents) (n : Fin 4096) (k : Fin 24) : EReal := if First (dist p c n) k then 1 else 0

/-- How many points a cluster has, and their sum. -/
def count (p : Pts) (c : Cents) (k : Fin 24) : EReal := ∑ n, hot p c n k
def total (p : Pts) (c : Cents) (k : Fin 24) (j : Fin 384) : EReal := ∑ n, hot p c n k * p n j

/-- The new centroids: each cluster's mean, an empty cluster's centroid as it was. -/
def step (p : Pts) (c : Cents) : Cents := fun k j =>
  if 0 < count p c k then Ideal.div (total p c k j) (max (count p c k) 1) else c k j

/-- How far the centroids of one batch element move in one step, squared and summed. -/
def moved (p : Pts) (c : Cents) : EReal := ∑ k, ∑ j, (step p c k j - c k j) * (step p c k j - c k j)

/-- The centroids before step `t`. -/
def traj (p : Pts) (c : Cents) : ℕ → Cents
  | 0 => c
  | t + 1 => step p (traj p c t)

/-! ## The least index at the least value, as words -/

/-- A number below 24, as a word, is that number. -/
theorem ofNat_toInt (k : Fin 24) : (BitVec.ofNat 32 k.val).toInt = k.val := by
  revert k; decide

theorem ofNat_inj {k k' : Fin 24} (h : BitVec.ofNat 32 k.val = BitVec.ofNat 32 k'.val) : k = k' := by
  have := congrArg BitVec.toInt h
  rw [ofNat_toInt, ofNat_toInt] at this
  exact Fin.ext (by exact_mod_cast this)

theorem minsi_toInt (x y : BitVec 32) : (IntOp.minsi x y).toInt = min x.toInt y.toInt := by
  unfold IntOp.minsi
  by_cases h : x.slt y = true
  · rw [if_pos h]; rw [BitVec.slt_iff_toInt_lt] at h; exact (min_eq_left h.le).symm
  · rw [if_neg h]; rw [BitVec.slt_iff_toInt_lt] at h; exact (min_eq_right (not_lt.mp h)).symm

/-- The least of the values equals the value at `k` exactly when that one is least. -/
theorem eq_min_iff (f : Fin 24 → EReal) (k : Fin 24) : f k = Finset.fold min ⊤ f Finset.univ ↔ ∀ k', f k ≤ f k' := by
  constructor
  · intro h k'
    rw [h]
    exact Finset.fold_min_le _ |>.mpr (Or.inr ⟨k', Finset.mem_univ _, le_rfl⟩)
  · intro h
    refine le_antisymm ?_ ?_
    · exact (Finset.le_fold_min _).mpr ⟨le_top, fun k' _ => h k'⟩
    · exact (Finset.fold_min_le _).mpr (Or.inr ⟨k, Finset.mem_univ _, le_rfl⟩)

open Classical in
/-- The least index at which the value is the least one is the first: compared with `k`, it gives the mark of `k`. -/
theorem mask_eq (f : Fin 24 → EReal) (k : Fin 24) :
    IntOp.cmpi .eq (BitVec.ofNat 32 k.val) (Finset.fold IntOp.minsi 2147483647#32
      (fun x : Fin 24 => if f x = Finset.fold min ⊤ f Finset.univ then BitVec.ofNat 32 x.val else 24#32) Finset.univ)
      = if First f k then 1#1 else 0#1 := by
  obtain ⟨k₀, h₀⟩ := exists_first f
  have hfold : (Finset.fold IntOp.minsi 2147483647#32
      (fun x : Fin 24 => if f x = Finset.fold min ⊤ f Finset.univ then BitVec.ofNat 32 x.val else 24#32) Finset.univ)
      = BitVec.ofNat 32 k₀.val := by
    refine BitVec.eq_of_toInt_eq ?_
    rw [ofNat_toInt, ← Finset.fold_hom (op' := min) (m := BitVec.toInt) minsi_toInt]
    refine le_antisymm ?_ ?_
    · refine (Finset.fold_min_le _).mpr (Or.inr ⟨k₀, Finset.mem_univ _, ?_⟩)
      rw [if_pos ((eq_min_iff f k₀).mpr h₀.1), ofNat_toInt]
    · refine (Finset.le_fold_min _).mpr ⟨?_, fun x _ => ?_⟩
      · have := k₀.isLt
        show (k₀.val : ℤ) ≤ 2147483647
        omega
      · by_cases hx : f x = Finset.fold min ⊤ f Finset.univ
        · rw [if_pos hx, ofNat_toInt]
          by_contra hlt
          have hlt' : x < k₀ := by
            rw [Fin.lt_def]; omega
          exact absurd (h₀.2 x hlt') (not_lt.mpr ((eq_min_iff f x).mp hx k₀))
        · rw [if_neg hx]
          have := k₀.isLt
          show (k₀.val : ℤ) ≤ 24
          omega
  rw [hfold]
  by_cases hk : First f k
  · rw [if_pos hk, hk.unique h₀]; simp [IntOp.cmpi]
  · rw [if_neg hk]
    have hne : ¬ BitVec.ofNat 32 k.val = BitVec.ofNat 32 k₀.val := fun h => hk (ofNat_inj h ▸ h₀)
    simp only [IntOp.cmpi, beq_eq_false_iff_ne.mpr hne]; rfl

/-! ## The fold that keeps the smaller of two pairs -/

/-- A fold by an operation that keeps `b` against every pair of a class, both ways round, and stays in the class, is `b`
    once `b` is met. -/
theorem foldl_keeps {α : Type} (op : α → α → α) (G : α → Prop) (b : α) (hG : ∀ p q, G p → G q → G (op p q))
    (hl : ∀ q, G q → op b q = b) (hr : ∀ q, G q → op q b = b) :
    ∀ (L : List α) (a : α), G a → (∀ p ∈ L, G p) → (a = b ∨ b ∈ L) → L.foldl op a = b
  | [], a, _, _, h => h.elim id fun h => absurd h List.not_mem_nil
  | p :: L, a, ha, hL, h => by
    have hp := hL p List.mem_cons_self
    refine foldl_keeps op G b hG hl hr L (op a p) (hG a p ha hp) (fun q hq => hL q (List.mem_cons_of_mem _ hq)) ?_
    rcases h with rfl | h
    · exact Or.inl (hl p hp)
    · rcases List.mem_cons.mp h with rfl | h
      · exact Or.inl (hr a ha)
      · exact Or.inr h

theorem eight : Ideal.ofBits .f32 0x41000000#32 = ((8 : ℝ) : EReal) := by
  simp [Ideal.ofBits, Ideal.ieee]
  rw [← EReal.coe_mul]
  norm_num

theorem twice96 : Ideal.ofBits .f32 0x43400000#32 = ((192 : ℝ) : EReal) := by
  simp [Ideal.ofBits, Ideal.ieee]
  rw [← EReal.coe_mul]
  norm_num

theorem infinity : Ideal.ofBits .f32 0x7F800000#32 = (⊤ : EReal) := by
  simp [Ideal.ofBits, Ideal.ieee]

theorem unit : Ideal.ofBits .f32 0x3F800000#32 = (1 : EReal) := by
  simp [Ideal.ofBits, Ideal.ieee]
  rw [← EReal.coe_mul]
  norm_num

theorem sum_scale {ι : Type} (s : Finset ι) (f : ι → EReal) {r : ℝ} (hr : 0 ≤ r) :
    ∑ i ∈ s, f i * (r : EReal) = (∑ i ∈ s, f i) * (r : EReal) := by
  classical
  induction s using Finset.induction_on with
  | empty => simp
  | insert a s ha ih =>
    rw [Finset.sum_insert ha, Finset.sum_insert ha, ih,
      EReal.right_distrib_of_nonneg_of_ne_top (by exact_mod_cast hr) (EReal.coe_ne_top r)]

/-- One over 24 of each batch element's shift, averaged over the 8, is their sum over 192. -/
theorem scale (f : Fin 8 → EReal) :
    Ideal.div (∑ b, f b * (((24 : ℝ)⁻¹ : ℝ) : EReal)) (Ideal.ofBits .f32 0x41000000#32)
      = Ideal.div (∑ b, f b) (Ideal.ofBits .f32 0x43400000#32) := by
  rw [eight, twice96, Ideal.div_coe (by norm_num), Ideal.div_coe (by norm_num), sum_scale _ _ (by norm_num), mul_assoc, ← EReal.coe_mul]
  norm_num

end Cert.KMeans

end
-- ==== Proof.V.Step.lean ====
/-
  One trip of the kernel's loop, for one batch element, is one step of the clustering.

  The kernel marks the nearest centroids a quarter of the points at a time; the four quarters of both batch elements are
  one function (`quarter`), and what they are joined to is one function too (`marks`). Then the new centroids are `step`
  of the old ones, and the sum of the squared moves is `moved`.
-/
module

public import proofs.«01_k».proof.Proof.KI.Body
public import proofs.«01_k».proof.Proof.V.Math
public import Idealize.ShloMosaic.Lib.Pointwise

@[expose] public section

noncomputable section

namespace Cert.KernelIdeal.Km

open Cert.KernelIdeal.Gen Cert.KMeans
open Idealize.ShloMosaic Idealize.ShloMosaic.TcCoe Idealize.ShloMosaic.Tactic

/-- The distances of 1024 points, from the one whose number is `o`'s second entry on, from every centroid. -/
def far (o : Fin 2 → ℕ) (h : S1x4096.Slices o S1x1024) (p2 : FVec Ideal S1x4096 .f32) (cent : FVec Ideal S24x384 .f32)
    (v : FVec Ideal S1x384x1024 .bf16) : FVec Ideal S24x1024 .f32 :=
  subf (addf (broadcastTo S24x1024 (extractStridedSlice S1x1024 o p2 h) broadcasts_S1x1024_S24x1024)
      (broadcastTo S24x1024 (k0_pay2 cent) broadcasts_S24x1_S24x1024))
    (mulf (broadcast S24x1024 (Scalar.ofBits .f32 0x40000000#32))
      (matmul dot_S24x384_S384x1024_S24x1024_1_0_0_1_n_n none (k0_pay3 cent)
        (shapeCast S384x1024 v shapeCasts_S1x384x1024_S384x1024) (constant S24x1024 .f32 0x00000000#32)))

/-- The marks of each column's first least entry, the rows being numbered by `it`. -/
def first (it : IVec S24x1024 32) (d : FVec Ideal S24x1024 .f32) : IVec S24x1024 1 :=
  cmpi .eq it (broadcastTo S24x1024 (shapeCast S1x1024 (multiReductionI .minsi [0] S1024
    (select (cmpf .oeq d (broadcastTo S24x1024 (shapeCast S1x1024
      (multiReduction .minimumf [0] S1024 d 0x7F800000#32 reduces_S24x1024_S1024 (.inl rfl) rfl)
      shapeCasts_S1024_S1x1024) broadcasts_S1x1024_S24x1024)) it (broadcast S24x1024 24#32))
    2147483647#32 reduces_S24x1024_S1024 rfl) shapeCasts_S1024_S1x1024) broadcasts_S1x1024_S24x1024)

/-- The marks of all the points. -/
def marks (it : IVec S24x1024 32) (p2 : FVec Ideal S1x4096 .f32) (cent : FVec Ideal S24x384 .f32)
    (v₀ v₁ v₂ v₃ : FVec Ideal S1x384x1024 .bf16) : IVec S24x4096 1 :=
  concatenate S24x4096 1
    [⟨S24x1024, first it (far _ slices_S1x4096_o0_0_S1x1024 p2 cent v₀)⟩,
     ⟨S24x1024, first it (far _ slices_S1x4096_o0_1024_S1x1024 p2 cent v₁)⟩,
     ⟨S24x1024, first it (far _ slices_S1x4096_o0_2048_S1x1024 p2 cent v₂)⟩,
     ⟨S24x1024, first it (far _ slices_S1x4096_o0_3072_S1x1024 p2 cent v₃)⟩]
    concatenates_S24x1024_S24x1024_S24x1024_S24x1024_S24x4096_d1

open Classical in
/-- A column's marks: 1 at the first least entry. -/
theorem first_apply (it : IVec S24x1024 32) (d : FVec Ideal S24x1024 .f32)
    (hit : ∀ (k : Fin 24) (n : Fin 1024), it (ix2 k n) = BitVec.ofNat 32 k.val) (f : Fin 24 → EReal) (n : Fin 1024)
    (hd : ∀ k : Fin 24, d (ix2 k n) = f k) (k : Fin 24) :
    first it d (ix2 k n) = if First f k then 1#1 else 0#1 := by
  pointwise [first]
  simp only [hit, hd, infinity]
  exact mask_eq f k

/-- A point's distance from a centroid. -/
theorem far_apply (o : Fin 2 → ℕ) (h : S1x4096.Slices o S1x1024) (p2 : FVec Ideal S1x4096 .f32) (cent : FVec Ideal S24x384 .f32)
    (v : FVec Ideal S1x384x1024 .bf16) (P : Pts) (k : Fin 24) (n : Fin 1024) (n' : Fin 4096) (ho : o 0 = 0) (hn : o 1 + n.val = n'.val)
    (hp : p2 (ix2 0 n') = ∑ j, P n' j * P n' j) (hv : ∀ j : Fin 384, v (ix3 0 j n) = P n' j) :
    far o h p2 cent v (ix2 k n) = dist P (fun k j => cent (ix2 k j)) n' k := by
  have key : ∀ (a : Fin 1) (b : Fin 4096), a.val = o 0 → b.val = o 1 + n.val → p2 (ix2 a b) = ∑ j, P n' j * P n' j := by
    intro a b ha hb
    rw [← hp]
    exact congrArg p2 (congrArg₂ ix2 (Subsingleton.elim _ _) (Fin.ext (hb.trans hn)))
  pointwise [far, k0_pay2, k0_pay3]
  rw [key _ _ rfl rfl]
  simp only [hv]
  rfl

open Classical in
/-- The marks of all the points: 1 where the centroid is the point's first nearest one. -/
theorem marks_apply (it : IVec S24x1024 32) (p2 : FVec Ideal S1x4096 .f32) (cent : FVec Ideal S24x384 .f32)
    (v₀ v₁ v₂ v₃ : FVec Ideal S1x384x1024 .bf16) (P : Pts)
    (hit : ∀ (k : Fin 24) (n : Fin 1024), it (ix2 k n) = BitVec.ofNat 32 k.val)
    (hp : ∀ n, p2 (ix2 0 n) = ∑ j, P n j * P n j)
    (h₀ : ∀ (j : Fin 384) (n : Fin 1024) (n' : Fin 4096), 0 + n.val = n'.val → v₀ (ix3 0 j n) = P n' j)
    (h₁ : ∀ (j : Fin 384) (n : Fin 1024) (n' : Fin 4096), 1024 + n.val = n'.val → v₁ (ix3 0 j n) = P n' j)
    (h₂ : ∀ (j : Fin 384) (n : Fin 1024) (n' : Fin 4096), 2048 + n.val = n'.val → v₂ (ix3 0 j n) = P n' j)
    (h₃ : ∀ (j : Fin 384) (n : Fin 1024) (n' : Fin 4096), 3072 + n.val = n'.val → v₃ (ix3 0 j n) = P n' j)
    (k : Fin 24) (n : Fin 4096) :
    marks it p2 cent v₀ v₁ v₂ v₃ (ix2 k n) = if First (dist P (fun k j => cent (ix2 k j)) n) k then 1#1 else 0#1 := by
  have key : ∀ (o : Fin 2 → ℕ) (h : S1x4096.Slices o S1x1024) (v : FVec Ideal S1x384x1024 .bf16) (r : Fin 1024), o 0 = 0 → o 1 + r.val = n.val →
      (∀ j : Fin 384, v (ix3 0 j r) = P n j) →
      first it (far o h p2 cent v) (ix2 k r) = if First (dist P (fun k j => cent (ix2 k j)) n) k then 1#1 else 0#1 :=
    fun o h v r ho hr hv => first_apply it _ hit _ r (fun k => far_apply o h p2 cent v P k r n ho hr (hp n) hv) k
  have hn := n.isLt
  pointwise [marks]
  split
  · exact key _ _ _ _ rfl (Nat.zero_add _) fun j => h₀ j _ n (Nat.zero_add _)
  · split
    · have e : 1024 + (n.val - 1024) = n.val := by omega
      exact key _ _ _ _ rfl e fun j => h₁ j _ n e
    · split
      · have e : 2048 + (n.val - 1024 - 1024) = n.val := by omega
        exact key _ _ _ _ rfl e fun j => h₂ j _ n e
      · have e : 3072 + (n.val - 1024 - 1024 - 1024) = n.val := by omega
        exact key _ _ _ _ rfl e fun j => h₃ j _ n e

/-- A mark as a number. -/
theorem sitofp_mark (p : Prop) [Decidable p] :
    (FloatOps.sitofp .f32 (BitVec.setWidth 32 (if p then 1#1 else 0#1 : BitVec 1)) : Ideal .f32) = if p then (1 : EReal) else 0 := by
  split
  · show (((BitVec.setWidth 32 (1#1)).toInt : ℝ) : EReal) = 1
    rw [show (BitVec.setWidth 32 (1#1)).toInt = 1 from rfl]; simp
  · show (((BitVec.setWidth 32 (0#1)).toInt : ℝ) : EReal) = 0
    rw [show (BitVec.setWidth 32 (0#1)).toInt = 0 from rfl]; simp

/-- The mark of two equal words. -/
theorem cmpi_eq {w : ℕ} (x y : BitVec w) : IntOp.cmpi .eq x y = if x = y then 1#1 else 0#1 := by
  by_cases h : x = y
  · subst h; simp [IntOp.cmpi]
  · simp only [IntOp.cmpi, beq_eq_false_iff_ne.mpr h, if_neg h]; rfl

/-- A select on two equal words and row 0. -/
theorem select_lane (v w : BitVec 32) (r : Fin 8) (x y : EReal) :
    Scalar.select (IntOp.andi (IntOp.cmpi .eq v w) (IntOp.cmpi .eq (BitVec.ofNat 32 r.val) 0#32)) x y
      = if v = w ∧ r = 0 then x else y := by
  have hr : (BitVec.ofNat 32 r.val = 0#32) ↔ r = 0 := by revert r; decide
  simp only [cmpi_eq, hr]
  by_cases h : v = w <;> by_cases h' : r = 0 <;> simp only [h, h', if_true, if_false, and_self, and_true, true_and, and_false, false_and] <;> rfl

open Classical in
/-- `M` marks the first nearest centroids. -/
def Marked (P : Pts) (cent : FVec Ideal S24x384 .f32) (M : IVec S24x4096 1) : Prop :=
  ∀ (k : Fin 24) (n : Fin 4096), M (ix2 k n) = if First (dist P (fun k j => cent (ix2 k j)) n) k then 1#1 else 0#1

section new
variable (cent : FVec Ideal S24x384 .f32) (M : IVec S24x4096 1) (v : FVec Ideal S1x4096x384 .bf16) (P : Pts)
  (hM : Marked P cent M) (hv : ∀ (n : Fin 4096) (j : Fin 384), v (ix3 0 n j) = P n j)
include hM hv

/-- The new centroids. -/
theorem pay8_apply (k : Fin 24) (j : Fin 384) :
    k0_pay8 cent M (extui 32 M natLt_1_32) v (ix2 k j) = step P (fun k j => cent (ix2 k j)) k j := by
  unfold Marked at hM
  pointwise [k0_pay8]
  simp only [hM, hv, sitofp_mark]
  rfl

/-- The lane of the shifts' vector that a trip fills. -/
theorem pay9_apply (a : FVec Ideal S8x128 .f32) (w : BitVec 32) (r : Fin 8) (l : Fin 128) :
    k0_pay9 (iota .tc S8x128 32 [1] iota_S8x128_d1_w32) (iota .tc S8x128 32 [0] iota_S8x128_d0_w32) cent a w M (extui 32 M natLt_1_32) v (ix2 r l)
      = if BitVec.ofNat 32 l.val = w ∧ r = 0 then moved P (fun k j => cent (ix2 k j)) * (((24 : ℝ)⁻¹ : ℝ) : EReal) else a (ix2 r l) := by
  have h8 := pay8_apply cent M v P hM hv
  pointwise [k0_pay9]
  rw [select_lane]
  simp only [h8]
  rfl
end new

end Cert.KernelIdeal.Km

end
-- ==== Proof.V.Trip.lean ====
/-
  One trip of the kernel's loop.

  What a trip yields and stores is, for both batch elements, the same two functions (`cents`, `shift`) of the marks, the
  loads of the two copies of the block, and what the trip before yielded.
-/
module

public import proofs.«01_k».proof.Proof.V.Step

@[expose] public section

set_option maxRecDepth 16384

noncomputable section

namespace Cert.KernelIdeal.Km

open Cert.KernelIdeal.Gen Cert.KMeans
open Idealize.ShloMosaic Idealize.ShloMosaic.TcCoe Idealize.ShloMosaic.Tactic

/-- A quarter of one batch element's transposed copy, and all its plain copy, as loaded. -/
abbrev ldT (X5 : scT.view.ty.Contents (Elt Ideal)) (o : Fin 3 → ℕ) (h : ∀ a, o a + S1x384x1024.size a ≤ S2x384x4096.size a) :
    FVec Ideal S1x384x1024 .bf16 :=
  View.readAt (Elt Ideal) scT.view (Rect.unit (s := S2x384x4096) o S1x384x1024.size h).toLoadRect X5
abbrev ldB (X6 : scB.view.ty.Contents (Elt Ideal)) (o : Fin 3 → ℕ) (h : ∀ a, o a + S1x4096x384.size a ≤ S2x4096x384.size a) :
    FVec Ideal S1x4096x384 .bf16 :=
  View.readAt (Elt Ideal) scB.view (Rect.unit (s := S2x4096x384) o S1x4096x384.size h).toLoadRect X6

/-- The marks of each batch element. -/
def marks0 (X5 : scT.view.ty.Contents (Elt Ideal)) (p : FVec Ideal S1x4096 .f32) (cent : FVec Ideal S24x384 .f32) : IVec S24x4096 1 :=
  marks bodyRun.sl.v474 p cent (ldT X5 _ inb_S2x384x4096_S1x384x1024_0_0_0) (ldT X5 _ inb_S2x384x4096_S1x384x1024_0_0_1024)
    (ldT X5 _ inb_S2x384x4096_S1x384x1024_0_0_2048) (ldT X5 _ inb_S2x384x4096_S1x384x1024_0_0_3072)
def marks1 (X5 : scT.view.ty.Contents (Elt Ideal)) (p : FVec Ideal S1x4096 .f32) (cent : FVec Ideal S24x384 .f32) : IVec S24x4096 1 :=
  marks bodyRun.sl.v474 p cent (ldT X5 _ inb_S2x384x4096_S1x384x1024_1_0_0) (ldT X5 _ inb_S2x384x4096_S1x384x1024_1_0_1024)
    (ldT X5 _ inb_S2x384x4096_S1x384x1024_1_0_2048) (ldT X5 _ inb_S2x384x4096_S1x384x1024_1_0_3072)

/-- The new centroids from the marks and the plain copy, and the shifts' vector with the trip's lane filled. -/
abbrev cents (cent : FVec Ideal S24x384 .f32) (M : IVec S24x4096 1) (v : FVec Ideal S1x4096x384 .bf16) : FVec Ideal S24x384 .f32 :=
  k0_pay8 cent M (extui 32 M natLt_1_32) v
abbrev shift (cent : FVec Ideal S24x384 .f32) (a : FVec Ideal S8x128 .f32) (w : BitVec 32) (M : IVec S24x4096 1)
    (v : FVec Ideal S1x4096x384 .bf16) : FVec Ideal S8x128 .f32 :=
  k0_pay9 (iota .tc S8x128 32 [1] iota_S8x128_d1_w32) (iota .tc S8x128 32 [0] iota_S8x128_d0_w32) cent a w M (extui 32 M natLt_1_32) v

variable (c : Dev nD) (i : grid0.Coords) (arg2 : Memref sig .tc .vmem S2x4096x384 .f32) (harg2 : arg2.IsWhole)
  (arg3 : Memref sig .tc .vmem S2x20x24x384 .f32) (harg3 : arg3.IsWhole) (arg4 : Memref sig .tc .vmem S2x8x128 .f32) (harg4 : arg4.IsWhole)
  (p q : FVec Ideal S1x4096 .f32) (X5 : scT.view.ty.Contents (Elt Ideal)) (X6 : scB.view.ty.Contents (Elt Ideal)) (t : Fin k0_t1_loop.trips)
  (acc : FVec Ideal S24x384 .f32 × FVec Ideal S8x128 .f32 × FVec Ideal S24x384 .f32 × FVec Ideal S8x128 .f32)

/-- What a trip yields. -/
theorem tripR_eq : tripR_k0_t1 (F := Ideal) Variants.none c none i tbM htbM arg2 harg2 arg3 harg3 arg4 harg4 scT (Memref.isWhole_whole _)
    scB (Memref.isWhole_whole _) p q bodyRun.sl.v472 bodyRun.sl.v473 bodyRun.sl.v474 X5 X6 t acc
    = (cents acc.1 (marks0 X5 p acc.1) (ldB X6 _ inb_S2x4096x384_S1x4096x384_0_0_0),
       shift acc.1 acc.2.1 (Scf.iv 0#32 1#32 t) (marks0 X5 p acc.1) (ldB X6 _ inb_S2x4096x384_S1x4096x384_0_0_0),
       cents acc.2.2.1 (marks1 X5 q acc.2.2.1) (ldB X6 _ inb_S2x4096x384_S1x4096x384_1_0_0),
       shift acc.2.2.1 acc.2.2.2 (Scf.iv 0#32 1#32 t) (marks1 X5 q acc.2.2.1) (ldB X6 _ inb_S2x4096x384_S1x4096x384_1_0_0)) := by
  unfold tripR_k0_t1 trip_k0_t1
  dsimp only
  rfl

/-- What a trip stores. -/
theorem tripL_eq : tripL_k0_t1 (F := Ideal) Variants.none c none i tbM htbM arg2 harg2 arg3 harg3 arg4 harg4 scT (Memref.isWhole_whole _)
    scB (Memref.isWhole_whole _) p q bodyRun.sl.v472 bodyRun.sl.v473 bodyRun.sl.v474 X5 X6 t acc
    = [⟨Rect.unit (k0_off98 t) S1x1x24x384.size (k0_off98_inb t), shapeCast S1x1x24x384
          (cents acc.2.2.1 (marks1 X5 q acc.2.2.1) (ldB X6 _ inb_S2x4096x384_S1x4096x384_1_0_0)) shapeCasts_S24x384_S1x1x24x384⟩,
       ⟨Rect.unit (k0_off97 t) S1x1x24x384.size (k0_off97_inb t), shapeCast S1x1x24x384
          (cents acc.1 (marks0 X5 p acc.1) (ldB X6 _ inb_S2x4096x384_S1x4096x384_0_0_0)) shapeCasts_S24x384_S1x1x24x384⟩] := by
  unfold tripL_k0_t1 trip_k0_t1
  dsimp only
  rfl

end Cert.KernelIdeal.Km

end
-- ==== Proof.V.Prep.lean ====
/-
  What the kernel's body has before its loop: two copies of its block in scratch, one of them transposed, the squared
  norms of the points, and the initial centroids.

  The copies and the norms are made a chunk of 512 points at a time (`chunk`); the sixteen chunks of each copy are one
  list. The initial centroids are the 24 rows the table names, one load each (`row`).
-/
module

public import proofs.«01_k».proof.Proof.KI.Body
public import proofs.«01_k».proof.Proof.V.Math
public import Idealize.ShloMosaic.Lib.Pointwise
public import Idealize.ShloMosaic.Lib.Writes
public import Idealize.ShloMosaic.Lib.WholeRead

@[expose] public section

set_option maxRecDepth 16384

noncomputable section

namespace Cert.KernelIdeal.Km

open Cert.KernelIdeal.Gen Cert.KMeans
open Idealize.ShloMosaic Idealize.ShloMosaic.TcCoe Idealize.ShloMosaic.Tactic

/-- The points of batch element `b` of a block. -/
def pts (x0 : Vec Ideal S2x4096x384 .f32) (b : Fin 2) : Pts := fun n j => x0 (ix3 b n j)

/-- Two indices of one shape with the same coordinates are one. -/
theorem idx_ext {s : Shape} {x y : s.Idx} (h : ∀ a, (x a).val = (y a).val) : x = y := funext fun a => Fin.ext (h a)

/-- An entry of a unit-stride box, placed: the offset plus the entry's coordinate. -/
theorem unit_emb_val {s : Shape} (off size : Fin s.rank → ℕ) (inb : ∀ a, off a + size a ≤ s.size a)
    (x : (Rect.unit off size inb).shape.Idx) (a : Fin s.rank) : ((Rect.unit off size inb).emb x a).val = off a + (x a).val := by
  rw [Rect.emb_apply]
  exact congrArg (off a + ·) (Nat.one_mul _)

/-- A box read from a buffer that holds `x0` whole, at an entry, is `x0` at the box's offsets plus the entry's. -/
theorem load_apply {M : Memref sig .tc .vmem S2x4096x384 .f32} (hM : M.IsWhole) (x0 : Vec Ideal S2x4096x384 .f32)
    (o : Fin 3 → ℕ) (sz : Fin 3 → ℕ) (h : ∀ a, o a + sz a ≤ S2x4096x384.size a) (x : (Rect.unit (s := S2x4096x384) o sz h).toLoadRect.shape.Idx)
    (y : S2x4096x384.Idx) (hy : ∀ a, (y a).val = o a + (x a).val) :
    View.readAt (Elt Ideal) M.view (Rect.unit o sz h).toLoadRect (hM.unread x0) x = x0 y := by
  rw [hM.readAt_unread]
  refine congrArg x0 (idx_ext fun a => ?_)
  rw [hy a]
  simp [LoadRect.idx_apply]

variable (c : Dev nD) (i : grid0.Coords) (arg2 : Memref sig .tc .vmem S2x4096x384 .f32) (harg2 : arg2.IsWhole)
  (x0 : Vec Ideal S2x4096x384 .f32) (xt : TbBuf (F := Ideal) c tbM) (hT : ∀ y : S8x24.Idx, (xt y : BitVec 32).toNat < 4096)

theorem chunk_inb (b : Fin 2) (q : Fin 8) : ∀ a, (![b.val, 512 * q.val, 0] : Fin 3 → ℕ) a + S1x512x384.size a ≤ S2x4096x384.size a := by
  revert b q; decide

theorem chunkT_inb (b : Fin 2) (q : Fin 8) : ∀ a, (![b.val, 0, 512 * q.val] : Fin 3 → ℕ) a + S1x384x512.size a ≤ S2x384x4096.size a := by
  revert b q; decide

/-- 512 points of one batch element, as loaded; -/
def chunk (b : Fin 2) (q : Fin 8) : FVec Ideal S1x512x384 .f32 :=
  View.readAt (Elt Ideal) arg2.view (Rect.unit (s := S2x4096x384) ![b.val, 512 * q.val, 0] S1x512x384.size (chunk_inb b q)).toLoadRect (harg2.unread x0)

theorem chunk_apply (b : Fin 2) (q : Fin 8) (a : Fin 1) (r : Fin 512) (j : Fin 384) (n : Fin 4096) (hn : n.val = 512 * q.val + r.val) :
    chunk arg2 harg2 x0 b q (ix3 a r j) = pts x0 b n j := by
  refine load_apply harg2 x0 _ _ _ _ (ix3 b n j) fun d => ?_
  have ha := a.isLt
  match d with
  | ⟨0, _⟩ => show b.val = b.val + a.val; omega
  | ⟨1, _⟩ => exact hn
  | ⟨2, _⟩ => show j.val = 0 + j.val; omega

/-- the chunks in the order in which they are stored, last first; -/
def order : List (Fin 2 × Fin 8) :=
  [(1, 7), (1, 6), (1, 5), (1, 4), (1, 3), (1, 2), (1, 1), (1, 0), (0, 7), (0, 6), (0, 5), (0, 4), (0, 3), (0, 2), (0, 1), (0, 0)]

/-- what is stored of the transposed copy, and of the plain one. -/
theorem storesT : bodyRun.sl.HS0_16 c arg2 harg2 x0 = order.map fun bq =>
    (⟨Rect.unit (s := S2x384x4096) ![bq.1.val, 0, 512 * bq.2.val] S1x384x512.size (chunkT_inb bq.1 bq.2), k0_pay24 (F := Ideal) (chunk arg2 harg2 x0 bq.1 bq.2)⟩ :
      View.Piece (Elt Ideal) S2x384x4096 .bf16) := rfl

theorem storesB : bodyRun.sl.HS1_16 c arg2 harg2 x0 = order.map fun bq =>
    (⟨Rect.unit (s := S2x4096x384) ![bq.1.val, 512 * bq.2.val, 0] S1x512x384.size (chunk_inb bq.1 bq.2), k0_pay25 (F := Ideal) (chunk arg2 harg2 x0 bq.1 bq.2)⟩ :
      View.Piece (Elt Ideal) S2x4096x384 .bf16) := rfl

theorem pay24_apply (v : FVec Ideal S1x512x384 .f32) (a : Fin 1) (j : Fin 384) (r : Fin 512) : (k0_pay24 (F := Ideal) v (ix3 a j r) : EReal) = v (ix3 0 r j) := by
  pointwise [k0_pay24, k0_pay22, k0_pay21]

theorem pay25_apply (v : FVec Ideal S1x512x384 .f32) (a : Fin 1) (j : Fin 384) (r : Fin 512) : (k0_pay25 (F := Ideal) v (ix3 a r j) : EReal) = v (ix3 0 r j) := by
  pointwise [k0_pay25, k0_pay21]

theorem pay23_apply (v : FVec Ideal S1x512x384 .f32) (a : Fin 1) (r : Fin 512) :
    k0_pay23 (F := Ideal) v (ix2 a r) = ∑ j : Fin 384, v (ix3 0 r j) * v (ix3 0 r j) := by
  pointwise [k0_pay23, k0_pay22, k0_pay21]

/-- The transposed copy. -/
theorem scT_read (y : S2x384x4096.Idx) :
    scT.view.read (Elt Ideal) (scT.view.writes (Elt Ideal) scT.view.junk (bodyRun.sl.HS0_16 c arg2 harg2 x0)) y = pts x0 (y 0) (y 2) (y 1) := by
  refine View.read_writes_apply_of_pieces scT.view scT.view.junk (fun y => pts x0 (y 0) (y 2) (y 1)) _ ?_ y
    (View.cover_of_tiledL (bodyRun.sl.HS0_16 c arg2 harg2 x0) S1x384x512.size (by sl_kernel_rfl) y)
  rw [storesT]
  refine List.forall_mem_map.mpr fun bq _ x => ?_
  obtain ⟨b, q⟩ := bq
  obtain ⟨a, j, r, rfl⟩ : ∃ (a : Fin 1) (j : Fin 384) (r : Fin 512), x = ix3 a j r := ⟨_, _, _, eq_ix3 x⟩
  refine (pay24_apply _ a j r).trans ?_
  have hr := r.isLt
  have hq := q.isLt
  rw [chunk_apply arg2 harg2 x0 b q 0 r j ⟨512 * q.val + r.val, by omega⟩ rfl]
  refine congr (congr (congrArg (pts x0) (Fin.ext ?_)) (Fin.ext ?_)) (Fin.ext ?_)
  · rw [unit_emb_val]; have := a.isLt; show b.val = b.val + a.val; omega
  · rw [unit_emb_val]; rfl
  · rw [unit_emb_val]; exact (Nat.zero_add _).symm

/-- The plain copy. -/
theorem scB_read (y : S2x4096x384.Idx) :
    scB.view.read (Elt Ideal) (scB.view.writes (Elt Ideal) scB.view.junk (bodyRun.sl.HS1_16 c arg2 harg2 x0)) y = pts x0 (y 0) (y 1) (y 2) := by
  refine View.read_writes_apply_of_pieces scB.view scB.view.junk (fun y => pts x0 (y 0) (y 1) (y 2)) _ ?_ y
    (View.cover_of_tiledL (bodyRun.sl.HS1_16 c arg2 harg2 x0) S1x512x384.size (by sl_kernel_rfl) y)
  rw [storesB]
  refine List.forall_mem_map.mpr fun bq _ x => ?_
  obtain ⟨b, q⟩ := bq
  obtain ⟨a, r, j, rfl⟩ : ∃ (a : Fin 1) (r : Fin 512) (j : Fin 384), x = ix3 a r j := ⟨_, _, _, eq_ix3 x⟩
  refine (pay25_apply _ a j r).trans ?_
  have hr := r.isLt
  have hq := q.isLt
  rw [chunk_apply arg2 harg2 x0 b q 0 r j ⟨512 * q.val + r.val, by omega⟩ rfl]
  refine congr (congr (congrArg (pts x0) (Fin.ext ?_)) (Fin.ext ?_)) (Fin.ext ?_)
  · rw [unit_emb_val]; have := a.isLt; show b.val = b.val + a.val; omega
  · rw [unit_emb_val]; rfl
  · rw [unit_emb_val]; exact (Nat.zero_add _).symm

/-- The squared norms of one batch element's points, a chunk at a time. -/
def norms (b : Fin 2) : FVec Ideal S1x4096 .f32 :=
  concatenate S1x4096 1
    [⟨S1x512, k0_pay23 (chunk arg2 harg2 x0 b 0)⟩, ⟨S1x512, k0_pay23 (chunk arg2 harg2 x0 b 1)⟩,
     ⟨S1x512, k0_pay23 (chunk arg2 harg2 x0 b 2)⟩, ⟨S1x512, k0_pay23 (chunk arg2 harg2 x0 b 3)⟩,
     ⟨S1x512, k0_pay23 (chunk arg2 harg2 x0 b 4)⟩, ⟨S1x512, k0_pay23 (chunk arg2 harg2 x0 b 5)⟩,
     ⟨S1x512, k0_pay23 (chunk arg2 harg2 x0 b 6)⟩, ⟨S1x512, k0_pay23 (chunk arg2 harg2 x0 b 7)⟩]
    concatenates_S1x512_S1x512_S1x512_S1x512_S1x512_S1x512_S1x512_S1x512_S1x4096_d1

theorem norms_zero : bodyRun.sl.v112 c arg2 harg2 x0 = norms arg2 harg2 x0 0 := rfl
theorem norms_one : bodyRun.sl.v348 c arg2 harg2 x0 = norms arg2 harg2 x0 1 := rfl

theorem norms_apply (b : Fin 2) (n : Fin 4096) : norms arg2 harg2 x0 b (ix2 0 n) = ∑ j, pts x0 b n j * pts x0 b n j := by
  have key : ∀ (q : Fin 8) (a : Fin 1) (r : Fin 512), n.val = 512 * q.val + r.val →
      k0_pay23 (F := Ideal) (chunk arg2 harg2 x0 b q) (ix2 a r) = ∑ j, pts x0 b n j * pts x0 b n j := by
    intro q a r h
    rw [pay23_apply]
    simp only [chunk_apply arg2 harg2 x0 b q 0 r _ n h]
  have hn := n.isLt
  pointwise [norms]
  split_ifs <;> exact key _ _ _ (by simp only [Fin.isValue]; omega)

/-! ## The initial centroids -/

/-- Where the table's word for centroid `k` of batch element `b` of grid point `i` is, as the kernel computes it. -/
def wordOff (b : Fin 2) (k : Fin 24) : Fin 2 → ℕ :=
  ![(Scalar.indexCast (Scalar.addi (Scalar.muli (BitVec.ofNat 32 (i 0).val) 2#32) (BitVec.ofNat 32 b.val))).toNat, k.val]

theorem wordRow (a : Fin 4) (b : Fin 2) :
    (Scalar.indexCast (Scalar.addi (Scalar.muli (BitVec.ofNat 32 a.val) 2#32) (BitVec.ofNat 32 b.val)) : BitVec 32).toNat = 2 * a.val + b.val := by
  revert a b; decide

/-- The batch element of the whole array that is element `b` of grid point `a`'s block. -/
def batch (a : Fin 4) (b : Fin 2) : Fin 8 := ⟨2 * a.val + b.val, by have := a.isLt; have := b.isLt; omega⟩

theorem word_inb (b : Fin 2) (k : Fin 24) : ∀ a, wordOff i b k a + S1x1.size a ≤ S8x24.size a := by
  intro a
  have h := wordRow (i 0) b
  have h0 : (i 0).val < 4 := (i 0).isLt
  have hb := b.isLt
  have hk := k.isLt
  match a with
  | ⟨0, _⟩ => refine (congrArg (· + 1) h).trans_le ?_; show 2 * (i 0).val + b.val + 1 ≤ 8; omega
  | ⟨1, _⟩ => show k.val + 1 ≤ 24; omega

/-- The word, as loaded; -/
def word (b : Fin 2) (k : Fin 24) : BitVec 32 :=
  View.readAt (Elt Ideal) tbM.view (Rect.unit (s := S8x24) (wordOff i b k) S1x1.size (word_inb i b k)).toLoadRect xt
    (Shape.Idx.first (numel1_S1x1.symm ▸ Nat.one_pos))

theorem word_eq (b : Fin 2) (k : Fin 24) : word c i xt b k = xt (ix2 (batch (i 0) b) k) := by
  unfold word
  rw [View.readAt_apply]
  refine congrArg xt (idx_ext (s := S8x24) fun a => ?_)
  have h := wordRow (i 0) b
  match a with
  | ⟨0, _⟩ => exact (Nat.add_zero _).trans h
  | ⟨1, _⟩ => exact Nat.add_zero _

include hT in
theorem word_bound (b : Fin 2) (k : Fin 24) : (word c i xt b k).toNat < 4096 := by
  rw [word_eq]; exact hT _

include hT in
theorem row_inb (b : Fin 2) (k : Fin 24) :
    ∀ a, (![b.val, (Scalar.indexCast (word c i xt b k) : BitVec 32).toNat, 0] : Fin 3 → ℕ) a + S1x1x384.size a ≤ S2x4096x384.size a := by
  have h := word_bound c i xt hT b k
  have hb := b.isLt
  intro a
  match a with
  | ⟨0, _⟩ => show b.val + 1 ≤ 2; omega
  | ⟨1, _⟩ => show (word c i xt b k).toNat + 1 ≤ 4096; omega
  | ⟨2, _⟩ => show 0 + 384 ≤ 384; omega

/-- and the row it names. -/
def row (b : Fin 2) (k : Fin 24) : FVec Ideal S1x384 .f32 :=
  shapeCast S1x384 (View.readAt (Elt Ideal) arg2.view (Rect.unit (s := S2x4096x384)
    ![b.val, (Scalar.indexCast (word c i xt b k) : BitVec 32).toNat, 0] S1x1x384.size (row_inb c i xt hT b k)).toLoadRect (harg2.unread x0))
    shapeCasts_S1x1x384_S1x384

theorem row_apply (b : Fin 2) (k : Fin 24) (a : Fin 1) (j : Fin 384) :
    row c i arg2 harg2 x0 xt hT b k (ix2 a j) = pts x0 b ⟨(xt (ix2 (batch (i 0) b) k) : BitVec 32).toNat, hT _⟩ j := by
  pointwise [row]
  refine load_apply harg2 x0 _ _ _ _ (ix3 b ⟨(xt (ix2 (batch (i 0) b) k) : BitVec 32).toNat, hT _⟩ j) fun d => ?_
  match d with
  | ⟨0, _⟩ => rfl
  | ⟨1, _⟩ =>
    have h : (xt (ix2 (batch (i 0) b) k) : BitVec 32).toNat = (word c i xt b k).toNat := by rw [word_eq]
    exact h
  | ⟨2, _⟩ => exact (Nat.zero_add _).symm

/-- The rows of one batch element, joined. -/
def initial (b : Fin 2) : FVec Ideal S24x384 .f32 :=
  concatenate S24x384 0 (List.ofFn fun k : Fin 24 => ⟨S1x384, row c i arg2 harg2 x0 xt hT b k⟩)
    concatenates_S1x384_S1x384_S1x384_S1x384_S1x384_S1x384_S1x384_S1x384_S1x384_S1x384_S1x384_S1x384_S1x384_S1x384_S1x384_S1x384_S1x384_S1x384_S1x384_S1x384_S1x384_S1x384_S1x384_S1x384_S24x384_d0

theorem initial_zero : bodyRun.sl.v235 c i arg2 harg2 x0 xt hT = initial c i arg2 harg2 x0 xt hT 0 := rfl

theorem initial_apply (b : Fin 2) (k : Fin 24) (j : Fin 384) :
    initial c i arg2 harg2 x0 xt hT b (ix2 k j) = pts x0 b ⟨(xt (ix2 (batch (i 0) b) k) : BitVec 32).toNat, hT _⟩ j := by
  pointwise [initial]
  exact row_apply c i arg2 harg2 x0 xt hT b k _ j

end Cert.KernelIdeal.Km

end
-- ==== Proof.V.Loop.lean ====
/-
  What the kernel's body leaves in its two outputs.

  After `t` trips the carried centroids of each batch element are `traj … t`, the lanes below `t` of row 0 of the shifts'
  vector hold how far each trip moved them (over 24), and the trips' stores are the centroids after each. So the
  trajectory block ends with the centroids after every trip, and the shifts block with every trip's shift.
-/
module

public import proofs.«01_k».proof.Proof.V.Trip
public import proofs.«01_k».proof.Proof.V.Prep

@[expose] public section

set_option maxRecDepth 16384

noncomputable section

namespace Cert.KernelIdeal.Km

open Cert.KernelIdeal.Gen Cert.KMeans
open Idealize.ShloMosaic Idealize.ShloMosaic.TcCoe Idealize.ShloMosaic.Tactic

/-- The centroids held in a vector. -/
abbrev ofVec (v : FVec Ideal S24x384 .f32) : Cents := fun k j => v (ix2 k j)

/-- One over 24. -/
abbrev part : EReal := (((24 : ℝ)⁻¹ : ℝ) : EReal)

theorem rowNo (k : Fin 24) (n : Fin 1024) : bodyRun.sl.v474 (ix2 k n) = BitVec.ofNat 32 k.val := by
  pointwise [bodyRun.sl.v474]

/-- The induction variable of trip `t`. -/
theorem iv_eq (t : ℕ) : Scf.iv (0#32) 1#32 t = BitVec.ofNat 32 t := by
  simp [Scf.iv]

section Loads
variable (X5 : scT.view.ty.Contents (Elt Ideal)) (X6 : scB.view.ty.Contents (Elt Ideal)) (P : Fin 2 → Pts)
  (hX5 : ∀ y : S2x384x4096.Idx, scT.view.read (Elt Ideal) X5 y = P (y 0) (y 2) (y 1))
  (hX6 : ∀ y : S2x4096x384.Idx, scB.view.read (Elt Ideal) X6 y = P (y 0) (y 1) (y 2))

include hX5 in
theorem ldT_apply (b : Fin 2) (o : Fin 3 → ℕ) (h : ∀ a, o a + S1x384x1024.size a ≤ S2x384x4096.size a) (hb : o 0 = b.val) (h1 : o 1 = 0)
    (j : Fin 384) (n : Fin 1024) (n' : Fin 4096) (hn : o 2 + n.val = n'.val) : ldT X5 o h (ix3 0 j n) = P b n' j := by
  refine (hX5 ((Rect.unit (s := S2x384x4096) o S1x384x1024.size h).toLoadRect.idx (ix3 0 j n))).trans ?_
  refine congr (congr (congrArg P (Fin.ext ?_)) (Fin.ext ?_)) (Fin.ext ?_) <;> simp [LoadRect.idx_apply, hb, h1, hn]

include hX6 in
theorem ldB_apply (b : Fin 2) (o : Fin 3 → ℕ) (h : ∀ a, o a + S1x4096x384.size a ≤ S2x4096x384.size a) (hb : o 0 = b.val) (h1 : o 1 = 0)
    (h2 : o 2 = 0) (n : Fin 4096) (j : Fin 384) : ldB X6 o h (ix3 0 n j) = P b n j := by
  refine (hX6 ((Rect.unit (s := S2x4096x384) o S1x4096x384.size h).toLoadRect.idx (ix3 0 n j))).trans ?_
  refine congr (congr (congrArg P (Fin.ext ?_)) (Fin.ext ?_)) (Fin.ext ?_) <;> simp [LoadRect.idx_apply, hb, h1, h2]

variable (p : FVec Ideal S1x4096 .f32) (cent : FVec Ideal S24x384 .f32)

include hX5 in
theorem marks0_marked (hp : ∀ n, p (ix2 0 n) = ∑ j, P 0 n j * P 0 n j) : Marked (P 0) cent (marks0 X5 p cent) :=
  fun k n => marks_apply _ p cent _ _ _ _ (P 0) rowNo hp (fun j n n' => ldT_apply X5 P hX5 0 _ inb_S2x384x4096_S1x384x1024_0_0_0 rfl rfl j n n')
    (fun j n n' => ldT_apply X5 P hX5 0 _ inb_S2x384x4096_S1x384x1024_0_0_1024 rfl rfl j n n') (fun j n n' => ldT_apply X5 P hX5 0 _ inb_S2x384x4096_S1x384x1024_0_0_2048 rfl rfl j n n')
    (fun j n n' => ldT_apply X5 P hX5 0 _ inb_S2x384x4096_S1x384x1024_0_0_3072 rfl rfl j n n') k n

include hX5 in
theorem marks1_marked (hp : ∀ n, p (ix2 0 n) = ∑ j, P 1 n j * P 1 n j) : Marked (P 1) cent (marks1 X5 p cent) :=
  fun k n => marks_apply _ p cent _ _ _ _ (P 1) rowNo hp (fun j n n' => ldT_apply X5 P hX5 1 _ inb_S2x384x4096_S1x384x1024_1_0_0 rfl rfl j n n')
    (fun j n n' => ldT_apply X5 P hX5 1 _ inb_S2x384x4096_S1x384x1024_1_0_1024 rfl rfl j n n') (fun j n n' => ldT_apply X5 P hX5 1 _ inb_S2x384x4096_S1x384x1024_1_0_2048 rfl rfl j n n')
    (fun j n n' => ldT_apply X5 P hX5 1 _ inb_S2x384x4096_S1x384x1024_1_0_3072 rfl rfl j n n') k n

end Loads

/-- What one batch element carries after `t` trips. -/
structure After (P : Pts) (C : Cents) (t : ℕ) (cent : FVec Ideal S24x384 .f32) (s : FVec Ideal S8x128 .f32) : Prop where
  cents : ofVec cent = traj P C t
  shift : ∀ l : Fin 128, l.val < t → s (ix2 0 l) = moved P (traj P C l.val) * part

/-- One more trip. -/
theorem After.next {P : Pts} {C : Cents} {t : ℕ} {cent : FVec Ideal S24x384 .f32} {s : FVec Ideal S8x128 .f32} (h : After P C t cent s)
    (ht : t < 20) (M : IVec S24x4096 1) (v : FVec Ideal S1x4096x384 .bf16) (hM : Marked P cent M)
    (hv : ∀ (n : Fin 4096) (j : Fin 384), v (ix3 0 n j) = P n j) :
    After P C (t + 1) (Km.cents cent M v) (Km.shift cent s (Scf.iv 0#32 1#32 t) M v) := by
  refine ⟨?_, fun l hl => ?_⟩
  · funext k j
    rw [show ofVec (Km.cents cent M v) k j = step P (ofVec cent) k j from pay8_apply cent M v P hM hv k j, h.cents]
    rfl
  · refine (pay9_apply cent M v P hM hv s _ 0 l).trans ?_
    have hl' := l.isLt
    have hw : BitVec.ofNat 32 l.val = Scf.iv 0#32 1#32 t ↔ l.val = t := by
      rw [iv_eq]
      constructor
      · intro e
        have := congrArg BitVec.toNat e
        rw [BitVec.toNat_ofNat, BitVec.toNat_ofNat, Nat.mod_eq_of_lt (by omega), Nat.mod_eq_of_lt (by omega)] at this
        exact this
      · exact fun e => by rw [e]
    by_cases e : l.val = t
    · rw [if_pos ⟨hw.mpr e, rfl⟩, show (fun k j => cent (ix2 k j)) = traj P C t from h.cents, e]
    · rw [if_neg (fun hh => e (hw.mp hh.1)), h.shift l (by omega)]

section Run
variable (c : Dev nD) (i : grid0.Coords) (arg2 : Memref sig .tc .vmem S2x4096x384 .f32) (harg2 : arg2.IsWhole)
  (arg3 : Memref sig .tc .vmem S2x20x24x384 .f32) (harg3 : arg3.IsWhole) (arg4 : Memref sig .tc .vmem S2x8x128 .f32) (harg4 : arg4.IsWhole)

section State
variable (p q : FVec Ideal S1x4096 .f32) (X5 : scT.view.ty.Contents (Elt Ideal)) (X6 : scB.view.ty.Contents (Elt Ideal))
  (init : FVec Ideal S24x384 .f32 × FVec Ideal S8x128 .f32 × FVec Ideal S24x384 .f32 × FVec Ideal S8x128 .f32)

/-- What the loop carries after `t` trips, and what they stored. -/
abbrev stateAt (t : ℕ) :=
  st_k0_t1 (F := Ideal) Variants.none c none i tbM htbM arg2 harg2 arg3 harg3 arg4 harg4 scT (Memref.isWhole_whole _)
    scB (Memref.isWhole_whole _) p q bodyRun.sl.v472 bodyRun.sl.v473 bodyRun.sl.v474 X5 X6 init t

variable (P : Fin 2 → Pts) (C : Fin 2 → Cents)
  (hp : ∀ n, p (ix2 0 n) = ∑ j, P 0 n j * P 0 n j) (hq : ∀ n, q (ix2 0 n) = ∑ j, P 1 n j * P 1 n j)
  (hX5 : ∀ y : S2x384x4096.Idx, scT.view.read (Elt Ideal) X5 y = P (y 0) (y 2) (y 1))
  (hX6 : ∀ y : S2x4096x384.Idx, scB.view.read (Elt Ideal) X6 y = P (y 0) (y 1) (y 2))
  (h0 : ofVec init.1 = C 0) (h1 : ofVec init.2.2.1 = C 1)

/-- A trip's stores, read at an entry. -/
theorem stored_apply (off : Fin 4 → ℕ) (h : ∀ a, off a + S1x1x24x384.size a ≤ S2x20x24x384.size a) (b : Fin 2) (t : ℕ)
    (ho : off = ![b.val, t, 0, 0]) (v : FVec Ideal S24x384 .f32) (hv : ofVec v = traj (P b) (C b) (t + 1))
    (x : (Rect.unit (s := S2x20x24x384) off S1x1x24x384.size h).shape.Idx) :
    shapeCast S1x1x24x384 v shapeCasts_S24x384_S1x1x24x384 x
      = (fun y : S2x20x24x384.Idx => traj (P (y 0)) (C (y 0)) ((y 1).val + 1) (y 2) (y 3)) ((Rect.unit (s := S2x20x24x384) off S1x1x24x384.size h).emb x) := by
  subst ho
  obtain ⟨a, a', k, j, rfl⟩ : ∃ (a : Fin 1) (a' : Fin 1) (k : Fin 24) (j : Fin 384), x = ix4 a a' k j := ⟨_, _, _, _, eq_ix4 x⟩
  have e0 : ((Rect.unit (s := S2x20x24x384) ![b.val, t, 0, 0] S1x1x24x384.size h).emb (ix4 a a' k j)) 0 = b :=
    Fin.ext ((unit_emb_val _ _ _ _ _).trans (by have := a.isLt; show b.val + a.val = b.val; omega))
  have e1 : (((Rect.unit (s := S2x20x24x384) ![b.val, t, 0, 0] S1x1x24x384.size h).emb (ix4 a a' k j)) 1).val = t :=
    (unit_emb_val _ _ _ _ _).trans (by have := a'.isLt; show t + a'.val = t; omega)
  have e2 : ((Rect.unit (s := S2x20x24x384) ![b.val, t, 0, 0] S1x1x24x384.size h).emb (ix4 a a' k j)) 2 = k :=
    Fin.ext ((unit_emb_val _ _ _ _ _).trans (Nat.zero_add _))
  have e3 : ((Rect.unit (s := S2x20x24x384) ![b.val, t, 0, 0] S1x1x24x384.size h).emb (ix4 a a' k j)) 3 = j :=
    Fin.ext ((unit_emb_val _ _ _ _ _).trans (Nat.zero_add _))
  dsimp only
  rw [e0, e1, e2, e3, ← hv]
  pointwise

theorem off97 (t : Fin k0_t1_loop.trips) : k0_off97 t = ![0, t.val, 0, 0] := by
  revert t; decide +kernel
theorem off98 (t : Fin k0_t1_loop.trips) : k0_off98 t = ![1, t.val, 0, 0] := by
  revert t; decide +kernel

theorem trips_eq : k0_t1_loop.trips = 20 := by decide +kernel

include hp hq hX5 hX6 h0 h1 in
/-- The loop's state after `t` trips. -/
theorem state_after (t : ℕ) (ht : t ≤ k0_t1_loop.trips) :
    After (P 0) (C 0) t (stateAt c i arg2 harg2 arg3 harg3 arg4 harg4 p q X5 X6 init t).1.1 (stateAt c i arg2 harg2 arg3 harg3 arg4 harg4 p q X5 X6 init t).1.2.1
    ∧ After (P 1) (C 1) t (stateAt c i arg2 harg2 arg3 harg3 arg4 harg4 p q X5 X6 init t).1.2.2.1 (stateAt c i arg2 harg2 arg3 harg3 arg4 harg4 p q X5 X6 init t).1.2.2.2
    ∧ ∀ pc ∈ (stateAt c i arg2 harg2 arg3 harg3 arg4 harg4 p q X5 X6 init t).2, ∀ x,
        pc.2 x = (fun y : S2x20x24x384.Idx => traj (P (y 0)) (C (y 0)) ((y 1).val + 1) (y 2) (y 3)) (pc.1.emb x) := by
  induction t with
  | zero => exact ⟨⟨h0, fun l hl => absurd hl (Nat.not_lt_zero _)⟩, ⟨h1, fun l hl => absurd hl (Nat.not_lt_zero _)⟩,
      fun pc hpc => absurd hpc List.not_mem_nil⟩
  | succ t ih =>
    obtain ⟨i0, i1, i2⟩ := ih (Nat.le_of_succ_le ht)
    have h20 : t < 20 := trips_eq ▸ ht
    have e := st_k0_t1_succ (F := Ideal) Variants.none c none i tbM htbM arg2 harg2 arg3 harg3 arg4 harg4 scT (Memref.isWhole_whole _)
      scB (Memref.isWhole_whole _) p q bodyRun.sl.v472 bodyRun.sl.v473 bodyRun.sl.v474 X5 X6 init ⟨t, ht⟩
    rw [tripR_eq, tripL_eq] at e
    have n0 := i0.next h20 _ _ (marks0_marked X5 P hX5 p _ hp) (ldB_apply X6 P hX6 0 _ inb_S2x4096x384_S1x4096x384_0_0_0 rfl rfl rfl)
    have n1 := i1.next h20 _ _ (marks1_marked X5 P hX5 q _ hq) (ldB_apply X6 P hX6 1 _ inb_S2x4096x384_S1x4096x384_1_0_0 rfl rfl rfl)
    refine ⟨?_, ?_, fun pc hpc => ?_⟩
    · rw [show stateAt c i arg2 harg2 arg3 harg3 arg4 harg4 p q X5 X6 init (t + 1) = _ from e]; exact n0
    · rw [show stateAt c i arg2 harg2 arg3 harg3 arg4 harg4 p q X5 X6 init (t + 1) = _ from e]; exact n1
    · rw [show stateAt c i arg2 harg2 arg3 harg3 arg4 harg4 p q X5 X6 init (t + 1) = _ from e] at hpc
      rcases List.mem_append.mp hpc with hpc | hpc
      · rcases List.mem_cons.mp hpc with rfl | hpc
        · exact stored_apply P C _ (k0_off98_inb ⟨t, ht⟩) 1 t (off98 ⟨t, ht⟩) _ n1.cents
        · rcases List.mem_singleton.mp hpc with rfl
          exact stored_apply P C _ (k0_off97_inb ⟨t, ht⟩) 0 t (off97 ⟨t, ht⟩) _ n0.cents
      · exact i2 pc hpc
end State

variable (x0 : Vec Ideal S2x4096x384 .f32) (xt : TbBuf (F := Ideal) c tbM) (hT : ∀ y : S8x24.Idx, (xt y : BitVec 32).toNat < 4096)

/-- The initial centroids of one batch element: the points the table names. -/
def start (b : Fin 2) : Cents := fun k j => pts x0 b ⟨(xt (ix2 (batch (i 0) b) k) : BitVec 32).toNat, hT _⟩ j

/-- The loop's state at the end of the body's run. -/
abbrev lastState :=
  stateAt c i arg2 harg2 arg3 harg3 arg4 harg4 (norms arg2 harg2 x0 0) (norms arg2 harg2 x0 1)
    (scT.view.writes (Elt Ideal) scT.view.junk (bodyRun.sl.HS0_16 c arg2 harg2 x0))
    (scB.view.writes (Elt Ideal) scB.view.junk (bodyRun.sl.HS1_16 c arg2 harg2 x0))
    (initial c i arg2 harg2 x0 xt hT 0, k0_pay151, initial c i arg2 harg2 x0 xt hT 1, k0_pay152) k0_t1_loop.trips

theorem pieces1 : (bodyRun c i arg2 harg2 arg3 harg3 arg4 harg4 x0 xt hT).1 = (lastState c i arg2 harg2 arg3 harg3 arg4 harg4 x0 xt hT).2 := by
  unfold bodyRun
  dsimp only
  rfl

theorem pieces2 : (bodyRun c i arg2 harg2 arg3 harg3 arg4 harg4 x0 xt hT).2.1
    = [⟨Rect.unit (s := S2x8x128) ![1, 0, 0] S1x8x128.size inb_S2x8x128_S1x8x128_1_0_0, shapeCast S1x8x128
          (lastState c i arg2 harg2 arg3 harg3 arg4 harg4 x0 xt hT).1.2.2.2 shapeCasts_S8x128_S1x8x128⟩,
       ⟨Rect.unit (s := S2x8x128) ![0, 0, 0] S1x8x128.size inb_S2x8x128_S1x8x128_0_0_0, shapeCast S1x8x128
          (lastState c i arg2 harg2 arg3 harg3 arg4 harg4 x0 xt hT).1.2.1 shapeCasts_S8x128_S1x8x128⟩] := by
  unfold bodyRun
  dsimp only
  rfl

theorem last_after :
    After (pts x0 0) (start c i x0 xt hT 0) k0_t1_loop.trips (lastState c i arg2 harg2 arg3 harg3 arg4 harg4 x0 xt hT).1.1
      (lastState c i arg2 harg2 arg3 harg3 arg4 harg4 x0 xt hT).1.2.1
    ∧ After (pts x0 1) (start c i x0 xt hT 1) k0_t1_loop.trips (lastState c i arg2 harg2 arg3 harg3 arg4 harg4 x0 xt hT).1.2.2.1
      (lastState c i arg2 harg2 arg3 harg3 arg4 harg4 x0 xt hT).1.2.2.2
    ∧ ∀ pc ∈ (lastState c i arg2 harg2 arg3 harg3 arg4 harg4 x0 xt hT).2, ∀ x,
        pc.2 x = (fun y : S2x20x24x384.Idx => traj (pts x0 (y 0)) (start c i x0 xt hT (y 0)) ((y 1).val + 1) (y 2) (y 3)) (pc.1.emb x) := by
  exact state_after c i arg2 harg2 arg3 harg3 arg4 harg4 (norms arg2 harg2 x0 0) (norms arg2 harg2 x0 1)
    (scT.view.writes (Elt Ideal) scT.view.junk (bodyRun.sl.HS0_16 c arg2 harg2 x0))
    (scB.view.writes (Elt Ideal) scB.view.junk (bodyRun.sl.HS1_16 c arg2 harg2 x0))
    (initial c i arg2 harg2 x0 xt hT 0, k0_pay151, initial c i arg2 harg2 x0 xt hT 1, k0_pay152) (pts x0) (start c i x0 xt hT)
    (norms_apply arg2 harg2 x0 0) (norms_apply arg2 harg2 x0 1) (scT_read c arg2 harg2 x0) (scB_read c arg2 harg2 x0)
    (funext fun k => funext fun j => initial_apply c i arg2 harg2 x0 xt hT 0 k j)
    (funext fun k => funext fun j => initial_apply c i arg2 harg2 x0 xt hT 1 k j) k0_t1_loop.trips le_rfl

/-- The trajectory block: the centroids after every trip. -/
theorem out1_apply (y : S2x20x24x384.Idx) : out1 c i arg2 harg2 arg3 harg3 arg4 harg4 x0 xt hT y
    = traj (pts x0 (y 0)) (start c i x0 xt hT (y 0)) ((y 1).val + 1) (y 2) (y 3) := by
  refine View.read_writes_apply_of_pieces VO1 VO1.junk
    (fun y : S2x20x24x384.Idx => traj (pts x0 (y 0)) (start c i x0 xt hT (y 0)) ((y 1).val + 1) (y 2) (y 3)) _ ?_ y
    (cover1 c i arg2 harg2 arg3 harg3 arg4 harg4 x0 xt hT y)
  rw [pieces1]
  exact (last_after c i arg2 harg2 arg3 harg3 arg4 harg4 x0 xt hT).2.2

/-- The two vectors of shifts, read in the block. -/
theorem lanes_apply (b : Fin 2) (h : ∀ d, (![b.val, 0, 0] : Fin 3 → ℕ) d + S1x8x128.size d ≤ S2x8x128.size d)
    (s : Fin 2 → FVec Ideal S8x128 .f32) (x : (Rect.unit (s := S2x8x128) ![b.val, 0, 0] S1x8x128.size h).shape.Idx) :
    shapeCast S1x8x128 (s b) shapeCasts_S8x128_S1x8x128 x
      = (fun y : S2x8x128.Idx => s (y 0) (ix2 (y 1) (y 2))) ((Rect.unit (s := S2x8x128) ![b.val, 0, 0] S1x8x128.size h).emb x) := by
  obtain ⟨a, r, l, rfl⟩ : ∃ (a : Fin 1) (r : Fin 8) (l : Fin 128), x = ix3 a r l := ⟨_, _, _, eq_ix3 x⟩
  have e0 : ((Rect.unit (s := S2x8x128) ![b.val, 0, 0] S1x8x128.size h).emb (ix3 a r l)) 0 = b :=
    Fin.ext ((unit_emb_val _ _ _ _ _).trans (by have := a.isLt; show b.val + a.val = b.val; omega))
  have e1 : ((Rect.unit (s := S2x8x128) ![b.val, 0, 0] S1x8x128.size h).emb (ix3 a r l)) 1 = r :=
    Fin.ext ((unit_emb_val _ _ _ _ _).trans (Nat.zero_add _))
  have e2 : ((Rect.unit (s := S2x8x128) ![b.val, 0, 0] S1x8x128.size h).emb (ix3 a r l)) 2 = l :=
    Fin.ext ((unit_emb_val _ _ _ _ _).trans (Nat.zero_add _))
  dsimp only
  rw [e0, e1, e2]
  pointwise

/-- The shifts block: lane `l` of row 0 holds trip `l`'s shift of that batch element. -/
theorem out2_apply (b : Fin 2) (l : Fin 128) (hl : l.val < 20) : out2 c i arg2 harg2 arg3 harg3 arg4 harg4 x0 xt hT (ix3 b 0 l)
    = moved (pts x0 b) (traj (pts x0 b) (start c i x0 xt hT b) l.val) * part := by
  obtain ⟨a0, a1, -⟩ := last_after c i arg2 harg2 arg3 harg3 arg4 harg4 x0 xt hT
  refine (View.read_writes_apply_of_pieces VO2 VO2.junk
    (fun y : S2x8x128.Idx => (![(lastState c i arg2 harg2 arg3 harg3 arg4 harg4 x0 xt hT).1.2.1,
      (lastState c i arg2 harg2 arg3 harg3 arg4 harg4 x0 xt hT).1.2.2.2] : Fin 2 → FVec Ideal S8x128 .f32) (y 0) (ix2 (y 1) (y 2))) _ ?_ _
    (cover2 c i arg2 harg2 arg3 harg3 arg4 harg4 x0 xt hT _)).trans ?_
  · rw [pieces2]
    intro pc hpc
    rcases List.mem_cons.mp hpc with rfl | hpc
    · exact lanes_apply 1 inb_S2x8x128_S1x8x128_1_0_0 ![(lastState c i arg2 harg2 arg3 harg3 arg4 harg4 x0 xt hT).1.2.1,
        (lastState c i arg2 harg2 arg3 harg3 arg4 harg4 x0 xt hT).1.2.2.2]
    · rcases List.mem_singleton.mp hpc with rfl
      exact lanes_apply 0 inb_S2x8x128_S1x8x128_0_0_0 ![(lastState c i arg2 harg2 arg3 harg3 arg4 harg4 x0 xt hT).1.2.1,
        (lastState c i arg2 harg2 arg3 harg3 arg4 harg4 x0 xt hT).1.2.2.2]
  · match b with
    | ⟨0, _⟩ => exact a0.shift l (trips_eq ▸ hl)
    | ⟨1, _⟩ => exact a1.shift l (trips_eq ▸ hl)

end Run

end Cert.KernelIdeal.Km

end
-- ==== Proof.V.Arrays.lean ====
/-
  What the region leaves in its two arrays: the centroids of every trip, and the shifts of every trip in the first
  row of each batch element's block.
-/
module

public import proofs.«01_k».proof.Proof.KI.Launch
public import proofs.«01_k».proof.Proof.V.Loop
public import Idealize.ShloMosaic.Lib.Pipeline.ValueKit

@[expose] public section

set_option maxRecDepth 16384

noncomputable section

namespace Cert.KernelIdeal.Km

open Cert.KMeans
open Cert.KernelIdeal.Gen
open Idealize.ShloMosaic Idealize.ShloMosaic.TcCoe Idealize.ShloMosaic.Tactic
open Idealize.ShloMosaic.Pipeline (Dat Cfg Window BodyObligation cellOf)

variable (m : (ℓ : Loc nD τ sig) → Buf (Elt Ideal) ℓ) (c : Dev nD)

/-- Batch element `b`'s points, read off the flattened argument. -/
def points (X : Vec Ideal S8x4096x384 .f32) (b : Fin 8) : Pts := fun n j => X (ix3 b n j)

/-- Batch element `b`'s first centroids: the rows of its points the table names. -/
def seeds (X : Vec Ideal S8x4096x384 .f32) (b : Fin 8) : Cents := fun k j =>
  points X b ⟨(lit0 (S8x24.rowMajor (ix2 b k))).toNat, lit0_lt _⟩ j

/-- The flattened argument, as the region finds it. -/
def flat : Vec Ideal S8x4096x384 .f32 := V m c main_call0_v0

/-- Each window's block at a grid point is the point's pair of batch elements. -/
theorem index0 (i : grid0.Coords) : cc0_transform_0 i = ![(i 0).val, 0, 0] := by
  have h : (i 0).val < 4 := (i 0).isLt
  have e : (BitVec.ofNat 32 (i 0).val).toNat = (i 0).val := by rw [BitVec.toNat_ofNat]; omega
  unfold cc0_transform_0; simp only [e]; rfl
theorem index1 (i : grid0.Coords) : cc0_transform_1 i = ![(i 0).val, 0, 0, 0] := by
  have h : (i 0).val < 4 := (i 0).isLt
  have e : (BitVec.ofNat 32 (i 0).val).toNat = (i 0).val := by rw [BitVec.toNat_ofNat]; omega
  unfold cc0_transform_1; simp only [e]; rfl
theorem index2 (i : grid0.Coords) : cc0_transform_2 i = ![(i 0).val, 0, 0] := by
  have h : (i 0).val < 4 := (i 0).isLt
  have e : (BitVec.ofNat 32 (i 0).val).toNat = (i 0).val := by rw [BitVec.toNat_ofNat]; omega
  unfold cc0_transform_2; simp only [e]; rfl

/-- The pair's first block: where a block's entry sits in the flattened argument, -/
theorem place0 (t : Fin (cfgM m).N) (y : S2x4096x384.Idx) :
    (((cfgM m).win 0).blk t).view.emb y = ix3 (batch (grid0.coords t 0) (y 0)) (y 1) (y 2) := by
  refine idx_ext fun a => ?_
  blk_simp
  show cc0_transform_0 (grid0.coords t) a * S2x4096x384.size a + _ = _
  rw [index0]
  fin_cases a <;> simp [ix3, batch, Nat.mul_comm]
/-- in the trajectories, -/
theorem place1 (t : Fin (cfgM m).N) (y : S2x20x24x384.Idx) :
    (((cfgM m).win 1).blk t).view.emb y = ix4 (batch (grid0.coords t 0) (y 0)) (y 1) (y 2) (y 3) := by
  refine idx_ext fun a => ?_
  blk_simp
  show cc0_transform_1 (grid0.coords t) a * S2x20x24x384.size a + _ = _
  rw [index1]
  fin_cases a <;> simp [ix4, batch, Nat.mul_comm]
/-- and in the shifts. -/
theorem place2 (t : Fin (cfgM m).N) (y : S2x8x128.Idx) :
    (((cfgM m).win 2).blk t).view.emb y = ix3 (batch (grid0.coords t 0) (y 0)) (y 1) (y 2) := by
  refine idx_ext fun a => ?_
  blk_simp
  show cc0_transform_2 (grid0.coords t) a * S2x8x128.size a + _ = _
  rw [index2]
  fin_cases a <;> simp [ix3, batch, Nat.mul_comm]

/-- The block of the flattened argument at a point. -/
def blockAt (t : Fin (cfgM m).N) : Vec Ideal S2x4096x384 .f32 := iblk m c 0 t

/-- A point of the grid reads the points of its two batch elements, -/
theorem pts_iblk (t : Fin (cfgM m).N) (b : Fin 2) :
    pts (blockAt m c t) b = points (flat m c) (batch (grid0.coords t 0) b) := by
  funext n j
  unfold pts points flat blockAt iblk
  exact congrArg (V m c main_call0_v0) (place0 m t (ix3 b n j))

/-- and starts from the rows the table names. -/
theorem start_iblk (t : Fin (cfgM m).N) (b : Fin 2) :
    start c (grid0.coords t) (blockAt m c t) (tbl m 0) (tbl_lt m) b = seeds (flat m c) (batch (grid0.coords t 0) b) := by
  funext k j
  unfold start seeds
  rw [pts_iblk]
  refine congrArg (fun n => points _ _ n j) (Fin.ext ?_)
  show (tbl m 0 _ : BitVec 32).toNat = _
  rw [tbl_eq]

/-- Every batch element is one of the two of some point of the grid. -/
theorem exists_batch (b : Fin 8) : ∃ (t : Fin (cfgM m).N) (r : Fin 2), batch (grid0.coords t 0) r = b := by
  have h : ∀ b : Fin 8, ∃ (t : Fin grid0.N) (r : Fin 2), batch (grid0.coords t 0) r = b := by decide +kernel
  exact h b

/-- Batch element `b`'s centroids after `t` trips. -/
abbrev after (b : Fin 8) (t : ℕ) : Cents := traj (points (flat m c) b) (seeds (flat m c) b) t

/-- The trajectories: entry (b, t) holds batch element `b`'s centroids after trip `t`. -/
def trajectories : Vec Ideal S8x20x24x384 .f32 := fun y => after m c (y 0) ((y 1).val + 1) (y 2) (y 3)

theorem outT_apply (t : Fin (cfgM m).N) (b : Fin 2) (l : Fin 20) (k : Fin 24) (j : Fin 384) :
    outT m c t (ix4 b l k j) = trajectories m c (ix4 (batch (grid0.coords t 0) b) l k j) := by
  refine (out1_apply c _ _ _ _ _ _ _ (blockAt m c t) _ _ (ix4 b l k j)).trans ?_
  show traj (pts (blockAt m c t) b) (start c (grid0.coords t) (blockAt m c t) (tbl m 0) (tbl_lt m) b) (l.val + 1) k j = _
  rw [pts_iblk, start_iblk]
  rfl

/-- THE FIRST ARRAY after the region holds the trajectories. -/
theorem arr1 : (dats m 0 c).arrAt 1 (cfgM m).N = trajectories m c := by
  refine (dats m 0 c).arrAt_eq_of_emb 1 (trajectories m c) (fun t _ y => ?_) fun i => ?_
  · obtain ⟨b, l, k, j, rfl⟩ : ∃ b l k j, y = ix4 b l k j := ⟨_, _, _, _, eq_ix4 (show S2x20x24x384.Idx from y)⟩
    refine (congrFun (after1 m c t) _).trans ((outT_apply m c t b l k j).trans ?_)
    exact congrArg (trajectories m c) (place1 m t (ix4 b l k j)).symm
  · obtain ⟨t, r, e⟩ := exists_batch m ((show S8x20x24x384.Idx from i) 0)
    refine ⟨t, flush1 m t, ?_⟩
    have h : (((cfgM m).win 1).blk t).view.emb (ix4 r ((show S8x20x24x384.Idx from i) 1) ((show S8x20x24x384.Idx from i) 2) ((show S8x20x24x384.Idx from i) 3)) = i :=
      (place1 m t _).trans ((congrArg (fun b => ix4 b _ _ _) e).trans (eq_ix4 (show S8x20x24x384.Idx from i)).symm)
    exact h ▸ View.emb_mem_set _ _

/-- THE SECOND ARRAY after the region: lane `l` of a batch element's first row, for `l` below 20, is how far trip `l`
    moved its centroids, over 24. -/
theorem arr2 (b : Fin 8) (l : Fin 128) (hl : l.val < 20) :
    (show Vec Ideal S8x8x128 .f32 from (dats m 0 c).arrAt 2 (cfgM m).N) (ix3 b 0 l)
      = moved (points (flat m c) b) (after m c b l.val) * part := by
  refine (dats m 0 c).arrAt_forall_of_cover 2
    (fun i v => ∀ (b : Fin 8) (l : Fin 128), l.val < 20 → (show S8x8x128.Idx from i) = ix3 b 0 l →
      (show EReal from v) = moved (points (flat m c) b) (after m c b l.val) * part) (fun t _ y => ?_) (fun i => ?_) (ix3 b 0 l) b l hl rfl
  · intro b l hl e
    refine (congrFun (after2 m c t) _).trans ?_
    have e := (place2 m t y).symm.trans e
    obtain ⟨r, q, l', rfl⟩ : ∃ r q l', y = ix3 r q l' := ⟨_, _, _, eq_ix3 (show S2x8x128.Idx from y)⟩
    have e0 : batch (grid0.coords t 0) r = b := congrFun e 0
    have e1 : q = 0 := congrFun e 1
    have e2 : l' = l := congrFun e 2
    subst e0 e1 e2
    show outS m c t (ix3 r 0 l') = _
    unfold outS
    refine (out2_apply c _ _ _ _ _ _ _ (blockAt m c t) _ _ r l' hl).trans ?_
    rw [pts_iblk, start_iblk]
  · obtain ⟨t, r, e⟩ := exists_batch m ((show S8x8x128.Idx from i) 0)
    refine ⟨t, flush2 m t, ?_⟩
    have h : (((cfgM m).win 2).blk t).view.emb (ix3 r ((show S8x8x128.Idx from i) 1) ((show S8x8x128.Idx from i) 2)) = i :=
      (place2 m t _).trans ((congrArg (fun b => ix3 b _ _) e).trans (eq_ix3 (show S8x8x128.Idx from i)).symm)
    exact h ▸ View.emb_mem_set _ _

end Cert.KernelIdeal.Km

end
-- ==== Proof.V.Stop.lean ====
/-
  When the iteration stops: after the first trip whose shift is at most the tolerance, or after the last.
-/
module

public import proofs.«01_k».proof.Proof.V.Math

@[expose] public section

noncomputable section

namespace Cert.KMeans

open Idealize.ShloMosaic

/-- Trip `s` is the first of twenty at which `D` holds, or the last. -/
def Stop (D : ℕ → Prop) (s : ℕ) : Prop := s < 20 ∧ (∀ t < s, ¬ D t) ∧ (D s ∨ s = 19)

/-- There is one. -/
theorem exists_stop (D : ℕ → Prop) : ∃ s, Stop D s := by
  classical
  by_cases h : ∃ t, D t ∧ t < 20
  · exact ⟨Nat.find h, (Nat.find_spec h).2, fun t ht hD => Nat.find_min h ht ⟨hD, by have := (Nat.find_spec h).2; omega⟩,
      Or.inl (Nat.find_spec h).1⟩
  · exact ⟨19, by omega, fun t ht hD => h ⟨t, hD, by omega⟩, Or.inr rfl⟩

/-- There is only one. -/
theorem Stop.unique {D : ℕ → Prop} {s s' : ℕ} (h : Stop D s) (h' : Stop D s') : s = s' := by
  obtain ⟨h1, h2, h3⟩ := h
  obtain ⟨h1', h2', h3'⟩ := h'
  rcases lt_trichotomy s s' with hl | he | hg
  · rcases h3 with h3 | h3
    · exact absurd h3 (h2' s hl)
    · omega
  · exact he
  · rcases h3' with h3' | h3'
    · exact absurd h3' (h2 s' hg)
    · omega

/-- The centroids moved, on average over the eight batch elements and the 24 centroids, by at most the tolerance
    during trip `t`. -/
def Settled (P : Fin 8 → Pts) (C : Fin 8 → Cents) (t : ℕ) : Prop :=
  Ideal.div (∑ b, moved (P b) (traj (P b) (C b) t)) (Ideal.ofBits .f32 0x43400000#32) ≤ Ideal.ofBits .f32 0x358637BD#32

/-- The bit of an ordered comparison. -/
theorem ole_iff (x y : EReal) : FloatOps.cmpf (F := Ideal) (φ := .f32) .ole x y = 1#1 ↔ x ≤ y := by
  by_cases h : x ≤ y <;> simp [Ideal.cmpf_def, Ideal.cmp, h]

/-- THE RESULT of both programs: the centroids after the trip the iteration stops at. -/
def final (P : Fin 8 → Pts) (C : Fin 8 → Cents) (b : Fin 8) : Cents :=
  traj (P b) (C b) ((exists_stop (Settled P C)).choose + 1)

end Cert.KMeans

end
-- ==== Proof.V.Tail.lean ====
/-
  The host operations after the region: they average the shifts over the batch elements, find the first trip whose
  average is at most the tolerance (the last trip where none is), and take the centroids after that trip.
-/
module

public import proofs.«01_k».proof.Proof.Gen.KernelIdeal.Launch
public import proofs.«01_k».proof.Proof.V.Stop
public import Idealize.ShloMosaic.Lib.Pointwise
public import Idealize.ShloMosaic.Lib.DynamicIndex

@[expose] public section

set_option maxRecDepth 16384

noncomputable section

namespace Cert.KernelIdeal.Km

open Cert.KMeans
open Cert.KernelIdeal.Gen
open Idealize.ShloMosaic Idealize.ShloMosaic.TcCoe Idealize.ShloMosaic.Tactic

/-- Which trips' average shift is at most the tolerance. -/
def settledBits (S : Vec Ideal S8x8x128 .f32) : IVec S20 1 :=
  cmpf (F := Ideal) .ole
    (Host.divf (Host.reduceAdd (F := Ideal) (φ := .f32) (shapeCast S8x20 (extractStridedSlice S8x1x20 ![0, 0, 0] S slices_S8x8x128_S8x1x20_0_0_0) shapeCasts_S8x1x20_S8x20)
      (constant S_ .f32 0x00000000#32) reducesTo_S8x20_S20_d0 h_S_) (broadcastInDim S20 ![] bcast_S_S20 (constant S_ .f32 0x41000000#32)))
    (broadcastInDim S20 ![] bcast_S_S20 (constant S_ .f32 0x358637BD#32))

/-- Whether one is, -/
def anyBit (x : IVec S20 1) : IVec S_ 1 := Host.reduce IntOp.ori x (constantI S_ 1 0#1) reducesTo_S20_S_d0 h_S_
/-- the first that is, -/
def firstBit (x : IVec S20 1) : IVec S_ 32 := fun j =>
  (Host.reduce2 reducer_argmax_i1_i32 x (iotaInDim S20 32 0) (constantI S_ 1 0#1) (constantI S_ 32 0#32) reducesTo_S20_S_d0 h_S_ j).2
/-- and the trip chosen. -/
def chosen (x : IVec S20 1) : IVec S_ 32 := select (anyBit x) (firstBit x) (constantI S_ 32 19#32)

/-- The trip's number, wrapped from below zero. -/
def wrapped (w : IVec S_ 32) : IVec S_ 32 := select (cmpi .slt w (constantI S_ 32 0#32)) (addi w (constantI S_ 32 20#32)) w

/-- The block of the trajectories at four start indices. -/
def takenAt (T : Vec Ideal S8x20x24x384 .f32) (w0 w1 w2 w3 : IVec S_ 32) : Vec Ideal S8x24x384 .f32 :=
  shapeCast S8x24x384 (Host.dynamicSlice S8x1x24x384 T (fun k => ((![w0, w1, w2, w3] : Fin 4 → IVec S_ 32) k (Shape.Idx.first h_S_)).toInt)
    sliceFits_S8x20x24x384_S8x1x24x384) shapeCasts_S8x1x24x384_S8x24x384

/-- The centroids taken at a trip number. -/
def taken (T : Vec Ideal S8x20x24x384 .f32) (w : IVec S_ 32) : Vec Ideal S8x24x384 .f32 :=
  takenAt T (constantI S_ 32 0#32) (wrapped w) (constantI S_ 32 0#32) (constantI S_ 32 0#32)

/-- The operations up to the flags, those that choose the trip, and those that take its centroids. -/
abbrev opsFlags : List (HloOp τ sig (Elt Ideal)) := hostOps1.take 10
abbrev opsChoose : List (HloOp τ sig (Elt Ideal)) := (hostOps1.drop 10).take 10
abbrev opsIndex : List (HloOp τ sig (Elt Ideal)) := ((hostOps1.drop 10).drop 10).take 8
abbrev opsTake : List (HloOp τ sig (Elt Ideal)) := ((hostOps1.drop 10).drop 10).drop 8

theorem flags_eq (W : Valuation τ sig (Elt Ideal)) : StableHlo.after opsFlags W (Proc.devRef .tc main_call0_v8)
    = settledBits (W (Proc.devRef .tc main_call0_v1_1)) := by
  simp only [opsFlags, hostOps1, List.take, List.drop]
  after_results
  rfl
theorem flags_keep (W : Valuation τ sig (Elt Ideal)) : StableHlo.after opsFlags W (Proc.devRef .tc main_call0_v1_0)
    = W (Proc.devRef .tc main_call0_v1_0) := by
  simp only [opsFlags, hostOps1, List.take, List.drop]
  after_results
theorem choose_eq (W : Valuation τ sig (Elt Ideal)) : StableHlo.after opsChoose W (Proc.devRef .tc main_call0_v11)
    = chosen (W (Proc.devRef .tc main_call0_v8)) := by
  simp only [opsChoose, hostOps1, List.take, List.drop]
  after_results
  rfl
theorem choose_keep (W : Valuation τ sig (Elt Ideal)) : StableHlo.after opsChoose W (Proc.devRef .tc main_call0_v1_0)
    = W (Proc.devRef .tc main_call0_v1_0) := by
  simp only [opsChoose, hostOps1, List.take, List.drop]
  after_results
theorem index_zero (W : Valuation τ sig (Elt Ideal)) :
    StableHlo.after opsIndex W (Proc.devRef .tc main_call0_call2_c_1) = constantI S_ 32 0#32
    ∧ StableHlo.after opsIndex W (Proc.devRef .tc main_call0_call2_c_2) = constantI S_ 32 0#32
    ∧ StableHlo.after opsIndex W (Proc.devRef .tc main_call0_call2_c_3) = constantI S_ 32 0#32 := by
  simp only [opsIndex, hostOps1, List.take, List.drop]
  refine ⟨?_, ?_, ?_⟩ <;> after_results <;> rfl
theorem index_trip (W : Valuation τ sig (Elt Ideal)) : StableHlo.after opsIndex W (Proc.devRef .tc main_call0_call2_v2)
    = wrapped (W (Proc.devRef .tc main_call0_v11)) := by
  simp only [opsIndex, hostOps1, List.take, List.drop]
  after_results
  rfl
theorem index_keep (W : Valuation τ sig (Elt Ideal)) : StableHlo.after opsIndex W (Proc.devRef .tc main_call0_v1_0)
    = W (Proc.devRef .tc main_call0_v1_0) := by
  simp only [opsIndex, hostOps1, List.take, List.drop]
  after_results
theorem take_eq (W : Valuation τ sig (Elt Ideal)) : StableHlo.after opsTake W (Proc.devRef .tc main_v0)
    = takenAt (W (Proc.devRef .tc main_call0_v1_0)) (W (Proc.devRef .tc main_call0_call2_c_1)) (W (Proc.devRef .tc main_call0_call2_v2))
        (W (Proc.devRef .tc main_call0_call2_c_2)) (W (Proc.devRef .tc main_call0_call2_c_3)) := by
  simp only [opsTake, hostOps1, List.take, List.drop]
  after_results
  unfold takenAt
  refine congrArg (fun f => shapeCast S8x24x384 (Host.dynamicSlice S8x1x24x384 _ f sliceFits_S8x20x24x384_S8x1x24x384) shapeCasts_S8x1x24x384_S8x24x384) (funext fun k => ?_)
  fin_cases k <;> rfl

/-- The result, of the region's two arrays. -/
theorem tail_eq (W : Valuation τ sig (Elt Ideal)) : StableHlo.after hostOps1 W (Proc.devRef .tc main_v0)
    = taken (W (Proc.devRef .tc main_call0_v1_0)) (chosen (settledBits (W (Proc.devRef .tc main_call0_v1_1)))) := by
  have h : StableHlo.after hostOps1 W = StableHlo.after opsTake (StableHlo.after opsIndex (StableHlo.after opsChoose (StableHlo.after opsFlags W))) := rfl
  rw [h, take_eq, (index_zero _).1, (index_zero _).2.1, (index_zero _).2.2, index_trip, index_keep, choose_eq, choose_keep, flags_eq, flags_keep]
  rfl

theorem settledBits_apply (S : Vec Ideal S8x8x128 .f32) (t : Fin 20) : settledBits S (ix1 t)
    = FloatOps.cmpf (F := Ideal) (φ := .f32) .ole (Ideal.div (∑ b : Fin 8, S (ix3 b 0 ⟨t.val, by omega⟩)) (Ideal.ofBits .f32 0x41000000#32)) (Ideal.ofBits .f32 0x358637BD#32) := by
  pointwise [settledBits]

theorem clamp_start (s : Fin 20) (a : Fin 4) :
    ((![constantI S_ 32 0#32, wrapped (fun _ => BitVec.ofNat 32 s.val), constantI S_ 32 0#32, constantI S_ 32 0#32] : Fin 4 → IVec S_ 32) a
        (Shape.Idx.first h_S_)).toInt = ((![0, s.val, 0, 0] : Fin 4 → ℕ) a : Int) := by
  have hs : ∀ s : Fin 20, (Scalar.select (IntOp.cmpi .slt (BitVec.ofNat 32 s.val) 0#32) (IntOp.addi (BitVec.ofNat 32 s.val) 20#32)
      (BitVec.ofNat 32 s.val)).toInt = (s.val : Int) := by decide
  fin_cases a
  · rfl
  · exact hs s
  · rfl
  · rfl

theorem slices_at (s : Fin 20) : S8x20x24x384.Slices ![0, s.val, 0, 0] S8x1x24x384 :=
  ⟨rfl, fun a => by have := s.isLt; fin_cases a <;> simp <;> omega⟩

theorem taken_apply (T : Vec Ideal S8x20x24x384 .f32) (s : Fin 20)
    (b : Fin 8) (k : Fin 24) (j : Fin 384) : taken T (fun _ => BitVec.ofNat 32 s.val) (ix3 b k j) = T (ix4 b s k j) := by
  unfold taken takenAt
  rw [Host.dynamicSlice_eq_extractStridedSlice S8x1x24x384 T _ ![0, s.val, 0, 0] _ (slices_at s) (clamp_start s)]
  pointwise []

/-- The pairs the search folds over are a flag and its own number. -/
theorem mem_fiber (x : IVec S20 1) (p : BitVec 1 × BitVec 32) (j : S_.Idx)
    (h : p ∈ Host.argReduceFiber x (iotaInDim S20 32 0) reducesTo_S20_S_d0 j) :
    ∃ t : Fin 20, p = (x (ix1 t), BitVec.ofNat 32 t.val) := by
  obtain ⟨n, -, rfl⟩ := List.mem_map.mp h
  refine ⟨(S20.rowMajor.symm n) 0, ?_⟩
  rw [← eq_ix1 (S20.rowMajor.symm n)]
  rfl

theorem fiber_mem (x : IVec S20 1) (t : Fin 20) (j : S_.Idx) :
    (x (ix1 t), BitVec.ofNat 32 t.val) ∈ Host.argReduceFiber x (iotaInDim S20 32 0) reducesTo_S20_S_d0 j := by
  refine List.mem_map.mpr ⟨S20.rowMajor (ix1 t), List.mem_filter.mpr ⟨List.mem_finRange _, ?_⟩, ?_⟩
  · exact decide_eq_true (funext fun a => a.elim0)
  · rw [Equiv.symm_apply_apply]; rfl

/-- The bit of a comparison. -/
theorem bit_cases (b : BitVec 1) : b = 0#1 ∨ b = 1#1 := by revert b; decide

/-- The class of pairs the search meets: an unset flag, or a set one at or after `s`. -/
def Later (s : ℕ) (p : BitVec 1 × BitVec 32) : Prop := p.1 = 0#1 ∨ p.1 = 1#1 ∧ ∃ t : ℕ, s ≤ t ∧ t < 20 ∧ p.2 = BitVec.ofNat 32 t

theorem slt_small {a b : ℕ} (ha : a < 20) (hb : b < 20) : IntOp.cmpi .slt (BitVec.ofNat 32 a) (BitVec.ofNat 32 b) = if a < b then 1#1 else 0#1 := by
  have h : ∀ a b : Fin 20, IntOp.cmpi .slt (BitVec.ofNat 32 a.val) (BitVec.ofNat 32 b.val) = if a.val < b.val then 1#1 else 0#1 := by decide
  exact h ⟨a, ha⟩ ⟨b, hb⟩

/-- Against an unset flag the search keeps the other pair; -/
theorem search_set_unset (v w : BitVec 32) : reducer_argmax_i1_i32 (1#1, v) (0#1, w) = (1#1, v) := by
  simp [reducer_argmax_i1_i32, IntOp.cmpi, IntOp.ori, IntOp.andi, Scalar.select]
theorem search_unset_set (v w : BitVec 32) : reducer_argmax_i1_i32 (0#1, w) (1#1, v) = (1#1, v) := by
  simp [reducer_argmax_i1_i32, IntOp.cmpi, IntOp.ori, IntOp.andi, Scalar.select]
/-- of two unset ones it keeps one, -/
theorem search_unset (v w : BitVec 32) : (reducer_argmax_i1_i32 (0#1, v) (0#1, w)).1 = 0#1 := by
  simp [reducer_argmax_i1_i32, IntOp.cmpi, IntOp.ori, IntOp.andi, Scalar.select]
/-- and of two set ones the earlier. -/
theorem search_set {a b : ℕ} (ha : a < 20) (hb : b < 20) :
    reducer_argmax_i1_i32 (1#1, BitVec.ofNat 32 a) (1#1, BitVec.ofNat 32 b) = (1#1, BitVec.ofNat 32 (min a b)) := by
  have h := slt_small ha hb
  simp only [reducer_argmax_i1_i32, h]
  by_cases hab : a < b
  · rw [if_pos hab, min_eq_left hab.le]; simp [IntOp.cmpi, IntOp.ori, IntOp.andi, Scalar.select]
  · rw [if_neg hab, min_eq_right (not_lt.mp hab)]; simp [IntOp.cmpi, IntOp.ori, IntOp.andi, Scalar.select]

theorem firstBit_eq (x : IVec S20 1) (s : Fin 20) (h1 : x (ix1 s) = 1#1) (h0 : ∀ t < s, x (ix1 t) = 0#1) :
    firstBit x = fun _ => BitVec.ofNat 32 s.val := by
  funext j
  unfold firstBit
  rw [Host.reduce2_eq_foldl_fiber]
  have h := foldl_keeps reducer_argmax_i1_i32 (Later s.val) (1#1, BitVec.ofNat 32 s.val) (fun p q hp hq => ?_) (fun q hq => ?_) (fun q hq => ?_)
    (Host.argReduceFiber x (iotaInDim S20 32 0) reducesTo_S20_S_d0 j) (0#1, 0#32) (Or.inl rfl) (fun p hp => ?_) (Or.inr (h1 ▸ fiber_mem x s j))
  · exact congrArg Prod.snd h
  · obtain ⟨p1, p2⟩ := p
    obtain ⟨q1, q2⟩ := q
    rcases hp with hp | ⟨hp, a, ha, ha', rfl⟩ <;> rcases hq with hq | ⟨hq, b, hb, hb', rfl⟩ <;> simp only at hp hq <;> subst hp hq
    · exact Or.inl (search_unset _ _)
    · rw [search_unset_set]; exact Or.inr ⟨rfl, b, hb, hb', rfl⟩
    · rw [search_set_unset]; exact Or.inr ⟨rfl, a, ha, ha', rfl⟩
    · rw [search_set ha' hb']; exact Or.inr ⟨rfl, min a b, by omega, by omega, rfl⟩
  · obtain ⟨q1, q2⟩ := q
    rcases hq with hq | ⟨hq, b, hb, hb', rfl⟩ <;> simp only at hq <;> subst hq
    · exact search_set_unset _ _
    · rw [search_set s.isLt hb', min_eq_left hb]
  · obtain ⟨q1, q2⟩ := q
    rcases hq with hq | ⟨hq, b, hb, hb', rfl⟩ <;> simp only at hq <;> subst hq
    · exact search_unset_set _ _
    · rw [search_set hb' s.isLt, min_eq_right hb]
  · obtain ⟨t, rfl⟩ := mem_fiber x p j hp
    rcases bit_cases (x (ix1 t)) with h | h
    · exact Or.inl h
    · refine Or.inr ⟨h, t.val, ?_, t.isLt, rfl⟩
      by_contra hlt
      have := h0 t (by simpa using hlt)
      rw [h] at this
      exact absurd this (by decide)

/-- Whether a flag is set. -/
theorem anyBit_of_set (x : IVec S20 1) (s : Fin 20) (h1 : x (ix1 s) = 1#1) : anyBit x = fun _ => 1#1 := by
  funext j
  unfold anyBit
  rw [Host.reduce_eq_foldl, ← List.foldl_map (f := x) (g := IntOp.ori)]
  have hl : ∀ q : BitVec 1, IntOp.ori 1#1 q = 1#1 := by decide
  have hr : ∀ q : BitVec 1, IntOp.ori q 1#1 = 1#1 := by decide
  refine foldl_keeps IntOp.ori (fun _ => True) 1#1 (fun _ _ _ _ => trivial) (fun q _ => hl q) (fun q _ => hr q) _ _ trivial (fun _ _ => trivial) (Or.inr ?_)
  refine List.mem_map.mpr ⟨ix1 s, List.mem_filter.mpr ⟨List.mem_map.mpr ⟨S20.rowMajor (ix1 s), List.mem_finRange _, Equiv.symm_apply_apply _ _⟩, ?_⟩, h1⟩
  exact decide_eq_true (funext fun a => a.elim0)
theorem anyBit_of_unset (x : IVec S20 1) (h0 : ∀ t, x (ix1 t) = 0#1) : anyBit x = fun _ => 0#1 := by
  funext j
  unfold anyBit
  rw [Host.reduce_eq_foldl, ← List.foldl_map (f := x) (g := IntOp.ori)]
  refine foldl_keeps IntOp.ori (fun q => q = 0#1) 0#1 (fun p q hp hq => by rw [hp, hq]; decide) (fun q hq => by rw [hq]; decide) (fun q hq => by rw [hq]; decide) _ _ rfl
    (fun p hp => ?_) (Or.inl rfl)
  obtain ⟨i, -, rfl⟩ := List.mem_map.mp hp
  exact (congrArg x (eq_ix1 i)).trans (h0 (i 0))

/-- THE TRIP CHOSEN is the one the iteration stops at. -/
theorem chosen_eq (x : IVec S20 1) (D : ℕ → Prop) (hx : ∀ t : Fin 20, x (ix1 t) = 1#1 ↔ D t.val) (s : ℕ) (hs : Stop D s) :
    chosen x = fun _ => BitVec.ofNat 32 s := by
  obtain ⟨h20, hlt, hst⟩ := hs
  have h0 : ∀ t : Fin 20, ¬ D t.val → x (ix1 t) = 0#1 := fun t ht =>
    (bit_cases (x (ix1 t))).resolve_right fun h => ht ((hx t).mp h)
  unfold chosen
  by_cases hD : D s
  · rw [anyBit_of_set x ⟨s, h20⟩ ((hx _).mpr hD), firstBit_eq x ⟨s, h20⟩ ((hx _).mpr hD) fun t ht => h0 t (hlt t.val ht)]
    rfl
  · obtain rfl := hst.resolve_left hD
    rw [anyBit_of_unset x fun t => h0 t ?_]
    · rfl
    · by_cases ht : t.val = 19
      · rw [ht]; exact hD
      · exact hlt t.val (by omega)

end Cert.KernelIdeal.Km

end
-- ==== Proof.V.Result.lean ====
/-
  The idealized kernel's result: the centroids after the trip the iteration stops at.
-/
module

public import proofs.«01_k».proof.Proof.V.Arrays
public import proofs.«01_k».proof.Proof.V.Tail

@[expose] public section

set_option maxRecDepth 16384

noncomputable section

namespace Cert.KernelIdeal.Km

open Cert.KMeans
open Cert.KernelIdeal.Gen
open Idealize.ShloMosaic Idealize.ShloMosaic.TcCoe Idealize.ShloMosaic.Tactic

variable (m : (ℓ : Loc nD τ sig) → Buf (Elt Ideal) ℓ) (c : Dev nD)

/-- The later host operations find the trajectories -/
theorem found1 : V₁ m c (Proc.devRef .tc main_call0_v1_0) = trajectories m c :=
  (Pipeline.withArrays_arr spec0 (by decide) c (V₀ m c) (fun w => (dats m 0 c).arrAt w (cfgM m).N) 1).trans (arr1 m c)
/-- and the shifts. -/
theorem found2 (b : Fin 8) (l : Fin 128) (hl : l.val < 20) :
    (show Vec Ideal S8x8x128 .f32 from V₁ m c (Proc.devRef .tc main_call0_v1_1)) (ix3 b 0 l)
      = moved (points (flat m c) b) (after m c b l.val) * part :=
  (congrFun (Pipeline.withArrays_arr spec0 (by decide) c (V₀ m c) (fun w => (dats m 0 c).arrAt w (cfgM m).N) 2) (ix3 b 0 l)).trans
    (arr2 m c b l hl)

/-- A flag is set where the iteration has settled. -/
theorem flag_iff (t : Fin 20) : settledBits (V₁ m c (Proc.devRef .tc main_call0_v1_1)) (ix1 t) = 1#1
    ↔ Settled (points (flat m c)) (seeds (flat m c)) t.val := by
  rw [settledBits_apply]
  have e : (∑ b : Fin 8, (show Vec Ideal S8x8x128 .f32 from V₁ m c (Proc.devRef .tc main_call0_v1_1)) (ix3 b 0 ⟨t.val, by omega⟩))
      = ∑ b : Fin 8, moved (points (flat m c) b) (after m c b t.val) * part :=
    Finset.sum_congr rfl fun b _ => found2 m c b ⟨t.val, by omega⟩ t.isLt
  unfold Settled
  rw [← scale]
  refine Iff.trans ?_ (Eq.to_iff (congrArg (fun s => Ideal.div s (Ideal.ofBits .f32 0x41000000#32) ≤ Ideal.ofBits .f32 0x358637BD#32) e))
  exact ole_iff _ _

/-- THE RESULT. -/
theorem result_eq : StableHlo.after hostOps1 (V₁ m c) (Proc.devRef .tc main_v0)
    = fun y : S8x24x384.Idx => final (points (flat m c)) (seeds (flat m c)) (y 0) (y 1) (y 2) := by
  rw [tail_eq]
  have hs := (exists_stop (Settled (points (flat m c)) (seeds (flat m c)))).choose_spec
  rw [chosen_eq _ _ (flag_iff m c) _ hs, found1]
  funext y
  obtain ⟨b, k, j, rfl⟩ : ∃ b k j, y = ix3 b k j := ⟨_, _, _, eq_ix3 y⟩
  exact taken_apply (trajectories m c) ⟨_, hs.1⟩ b k j

end Cert.KernelIdeal.Km

end
-- ==== Proof.V.RefOps.lean ====
/-
  One trip of the reference's loop, stretch by stretch: each stretch's output as a vector expression of its inputs, and
  that expression read at an index.
-/
module

public import proofs.«01_k».proof.Proof.RI.Run
public import proofs.«01_k».proof.Proof.V.Stop
public import Idealize.ShloMosaic.Lib.Pointwise

@[expose] public section

set_option maxRecDepth 16384

noncomputable section

namespace Cert.ReferenceIdeal.Km

open Cert.KMeans
open Cert.ReferenceIdeal Cert.ReferenceIdeal.Gen
open Idealize.ShloMosaic Idealize.ShloMosaic.TcCoe Idealize.ShloMosaic.Tactic
open Idealize.ShloMosaic.StableHlo

/-- Batch element `b`'s points and centroids, read off the arrays. -/
abbrev ptsOf (X : Vec Ideal S8x4096x384 .f32) (b : Fin 8) : Pts := fun n j => X (ix3 b n j)
abbrev centsOf (C : Vec Ideal S8x24x384 .f32) (b : Fin 8) : Cents := fun k j => C (ix3 b k j)

/-! ## The stretches' vectors -/

/-- The squared norms of the points. -/
def norms (X : Vec Ideal S8x4096x384 .f32) : Vec Ideal S8x4096x1 .f32 :=
  broadcastInDim S8x4096x1 ![0, 1] bcast_S8x4096_S8x4096x1_0_1
    (Host.reduceAdd (F := Ideal) (φ := .f32) (mulf (F := Ideal) (φ := .f32) X X) (constant S_ .f32 0x00000000#32) reducesTo_S8x4096x384_S8x4096_d2 h_S_)

/-- The squared distances. -/
def dists (N : Vec Ideal S8x4096x1 .f32) (X : Vec Ideal S8x4096x384 .f32) (C : Vec Ideal S8x24x384 .f32) : Vec Ideal S8x4096x24 .f32 :=
  subf (F := Ideal) (φ := .f32)
    (addf (F := Ideal) (φ := .f32) (broadcastInDim S8x4096x24 ![0, 1, 2] bcast_S8x4096x1_S8x4096x24_0_1_2 N)
      (broadcastInDim S8x4096x24 ![0, 1, 2] bcast_S8x1x24_S8x4096x24_0_1_2 (broadcastInDim S8x1x24 ![0, 2] bcast_S8x24_S8x1x24_0_2
        (Host.reduceAdd (F := Ideal) (φ := .f32) (mulf (F := Ideal) (φ := .f32) C C) (constant S_ .f32 0x00000000#32) reducesTo_S8x24x384_S8x24_d2 h_S_))))
    (mulf (F := Ideal) (φ := .f32) (broadcastInDim S8x4096x24 ![] bcast_S_S8x4096x24 (constant S_ .f32 0x40000000#32))
      (Host.dotGeneral (F := Ideal) (φ₁ := .f32) (φ₂ := .f32) dot_S8x4096x384_S8x24x384_S8x4096x24_2_2_1_1_0_0 none X C))

/-- The nearest centroid's number. -/
def nearest (D : Vec Ideal S8x4096x24 .f32) : IVec S8x4096 32 := fun j =>
  (Host.argReduce (F := Ideal) reducer_argmin_f32_i32 D (iotaInDim S8x4096x24 32 2) (constant S_ .f32 0x7F800000#32) (constantI S_ 32 0#32) reducesTo_S8x4096x24_S8x4096_d2 h_S_ j).2

/-- The marks. -/
def oneHot (A : IVec S8x4096 32) : Vec Ideal S8x4096x24 .f32 :=
  uitofp (F := Ideal) .f32 (cmpi .eq
    (broadcastInDim S8x4096x24 ![0, 1, 2] bcast_S8x4096x1_S8x4096x24_0_1_2 (broadcastInDim S8x4096x1 ![0, 1] bcast_S8x4096_S8x4096x1_0_1 A))
    (broadcastInDim S8x4096x24 ![0, 1, 2] bcast_S1x1x24_S8x4096x24_0_1_2 (iotaInDim S1x1x24 32 2)))

/-- How many points each cluster has; whether it has any; its mean. -/
def counts (H : Vec Ideal S8x4096x24 .f32) : Vec Ideal S8x24x1 .f32 :=
  broadcastInDim S8x24x1 ![0, 1] bcast_S8x24_S8x24x1_0_1
    (Host.reduceAdd (F := Ideal) (φ := .f32) H (constant S_ .f32 0x00000000#32) reducesTo_S8x4096x24_S8x24_d1 h_S_)
def inhabited (H : Vec Ideal S8x4096x24 .f32) : IVec S8x24x1 1 :=
  cmpf (F := Ideal) (φ := .f32) .ogt (counts H) (broadcastInDim S8x24x1 ![] bcast_S_S8x24x1 (constant S_ .f32 0x00000000#32))
def means (H : Vec Ideal S8x4096x24 .f32) (X : Vec Ideal S8x4096x384 .f32) : Vec Ideal S8x24x384 .f32 :=
  Host.divf (F := Ideal) (φ := .f32) (Host.dotGeneral (F := Ideal) (φ₁ := .f32) (φ₂ := .f32) dot_S8x4096x24_S8x4096x384_S8x24x384_1_1_2_2_0_0 none H X)
    (broadcastInDim S8x24x384 ![0, 1, 2] bcast_S8x24x1_S8x24x384_0_1_2 (maximumf (F := Ideal) (φ := .f32) (counts H)
      (broadcastInDim S8x24x1 ![] bcast_S_S8x24x1 (constant S_ .f32 0x3F800000#32))))

/-- The next centroids: an empty cluster keeps its own. -/
def next (M : IVec S8x24x1 1) (Q C : Vec Ideal S8x24x384 .f32) : Vec Ideal S8x24x384 .f32 :=
  select (broadcastInDim S8x24x384 ![0, 1, 2] bcast_S8x24x1_S8x24x384_0_1_2 M) Q C

/-- The average shift. -/
def shiftOf (Y C : Vec Ideal S8x24x384 .f32) : Vec Ideal S_ .f32 :=
  Host.divf (F := Ideal) (φ := .f32)
    (Host.reduceAdd (F := Ideal) (φ := .f32) (Host.reduceAdd (F := Ideal) (φ := .f32) (mulf (F := Ideal) (φ := .f32) (subf (F := Ideal) (φ := .f32) Y C) (subf (F := Ideal) (φ := .f32) Y C))
      (constant S_ .f32 0x00000000#32) reducesTo_S8x24x384_S8x24_d2 h_S_) (constant S_ .f32 0x00000000#32) reducesTo_S8x24_S_d0_1 h_S_)
    (constant S_ .f32 0x43400000#32)

/-- A finished loop keeps its centroids. -/
def frozen (d : IVec S_ 1) (C Y : Vec Ideal S8x24x384 .f32) : Vec Ideal S8x24x384 .f32 :=
  select (broadcastInDim S8x24x384 ![] bcast_S_S8x24x384 d) C Y

/-- The loop is finished once the shift is at most the tolerance. -/
def finished (d : IVec S_ 1) (e : Vec Ideal S_ .f32) : IVec S_ 1 := ori d (cmpf (F := Ideal) (φ := .f32) .ole e (constant S_ .f32 0x358637BD#32))

/-! ## The stretches compute them -/

variable (W : Valuation τ sig (Elt Ideal))

theorem body0_eq : after body0 W (Proc.devRef .tc main_while0b_v17)
    = dists (W (Proc.devRef .tc main_v6_0)) (W (Proc.devRef .tc main_v6_1)) (W (Proc.devRef .tc main_v6_4)) := by
  after_reads_simp
  rfl
theorem body1_eq : after body1 W (Proc.devRef .tc main_while0b_v18) = nearest (W (Proc.devRef .tc main_while0b_v17)) := by
  after_results
  rfl
theorem body2_eq : after body2 W (Proc.devRef .tc main_while0b_v19) = oneHot (W (Proc.devRef .tc main_while0b_v18)) := by
  after_results
  rfl
theorem body3_mask : after body3 W (Proc.devRef .tc main_while0b_v24) = inhabited (W (Proc.devRef .tc main_while0b_v19)) := by
  after_reads_simp
  rfl
theorem body3_means : after body3 W (Proc.devRef .tc main_while0b_v29)
    = means (W (Proc.devRef .tc main_while0b_v19)) (W (Proc.devRef .tc main_v6_1)) := by
  after_reads_simp
  rfl
theorem body4_eq : after body4 W (Proc.devRef .tc main_while0b_v30)
    = next (W (Proc.devRef .tc main_while0b_v24)) (W (Proc.devRef .tc main_while0b_v29)) (W (Proc.devRef .tc main_v6_4)) := by
  after_results
  rfl
theorem body5_eq : after body5 W (Proc.devRef .tc main_while0b_v35)
    = shiftOf (W (Proc.devRef .tc main_while0b_v30)) (W (Proc.devRef .tc main_v6_4)) := by
  after_reads_simp
  rfl
theorem body6_eq : after body6 W (Proc.devRef .tc main_while0b_v36)
    = frozen (W (Proc.devRef .tc main_v6_5)) (W (Proc.devRef .tc main_v6_4)) (W (Proc.devRef .tc main_while0b_v30)) := by
  after_results
  rfl
theorem body7_cents : after body7 W (Proc.devRef .tc main_v6_4) = W (Proc.devRef .tc main_while0b_v36) := by
  after_reads_simp
  rfl
theorem body7_flag : after body7 W (Proc.devRef .tc main_v6_5)
    = finished (W (Proc.devRef .tc main_v6_5)) (W (Proc.devRef .tc main_while0b_v35)) := by
  after_reads_simp
  rfl

/-! ## Read at an index -/

theorem norms_apply (X : Vec Ideal S8x4096x384 .f32) (b : Fin 8) (n : Fin 4096) :
    norms X (ix3 b n 0) = ∑ j, X (ix3 b n j) * X (ix3 b n j) := by
  pointwise [norms]

theorem dists_apply (X : Vec Ideal S8x4096x384 .f32) (C : Vec Ideal S8x24x384 .f32) (b : Fin 8) (n : Fin 4096) (k : Fin 24) :
    dists (norms X) X C (ix3 b n k) = dist (ptsOf X b) (centsOf C b) n k := by
  pointwise [dists]
  rw [norms_apply]
  unfold KMeans.dist
  rw [Finset.sum_congr rfl fun j _ => mul_comm (X (ix3 b n j)) (C (ix3 b k j))]

theorem counts_apply (H : Vec Ideal S8x4096x24 .f32) (b : Fin 8) (k : Fin 24) (z : Fin 1) :
    counts H (ix3 b k z) = ∑ n : Fin 4096, H (ix3 b n k) := by
  pointwise [counts]

theorem means_apply (H : Vec Ideal S8x4096x24 .f32) (X : Vec Ideal S8x4096x384 .f32) (b : Fin 8) (k : Fin 24) (j : Fin 384) :
    means H X (ix3 b k j) = Ideal.div (∑ n : Fin 4096, H (ix3 b n k) * X (ix3 b n j)) (max (∑ n : Fin 4096, H (ix3 b n k)) 1) := by
  pointwise [means, counts]

theorem shiftOf_apply (Y C : Vec Ideal S8x24x384 .f32) (i : S_.Idx) :
    shiftOf Y C i = Ideal.div (∑ b : Fin 8, ∑ k : Fin 24, ∑ j : Fin 384, (Y (ix3 b k j) - C (ix3 b k j)) * (Y (ix3 b k j) - C (ix3 b k j))) (Ideal.ofBits .f32 0x43400000#32) := by
  pointwise [shiftOf]

theorem oneHot_apply (A : IVec S8x4096 32) (b : Fin 8) (n : Fin 4096) (k : Fin 24) :
    oneHot A (ix3 b n k) = if A (ix2 b n) = BitVec.ofNat 32 k.val then 1 else 0 := by
  pointwise [oneHot]
  by_cases h : A (ix2 b n) = BitVec.ofNat 32 k.val
  · rw [if_pos h, h, show IntOp.cmpi .eq (BitVec.ofNat 32 k.val) (BitVec.ofNat 32 k.val) = 1#1 by simp [IntOp.cmpi]]
    show (((1#1 : BitVec 1).toNat : ℝ) : EReal) = 1
    simp
  · rw [if_neg h, show IntOp.cmpi .eq (A (ix2 b n)) (BitVec.ofNat 32 k.val) = 0#1 by
        simp only [IntOp.cmpi, beq_eq_false_iff_ne.mpr h]; rfl]
    show (((0#1 : BitVec 1).toNat : ℝ) : EReal) = 0
    simp

theorem next_apply (H : Vec Ideal S8x4096x24 .f32) (Q C : Vec Ideal S8x24x384 .f32) (b : Fin 8) (k : Fin 24) (j : Fin 384) :
    next (inhabited H) Q C (ix3 b k j) = if 0 < ∑ n : Fin 4096, H (ix3 b n k) then Q (ix3 b k j) else C (ix3 b k j) := by
  have hm : inhabited H (ix3 b k 0) = if 0 < ∑ n : Fin 4096, H (ix3 b n k) then 1#1 else 0#1 := by
    pointwise [inhabited]
    rw [counts_apply]
    by_cases h : 0 < ∑ n : Fin 4096, H (ix3 b n k) <;> simp [h]
  pointwise [next]
  rw [hm]
  split <;> rfl

theorem frozen_of_set (d : IVec S_ 1) (C Y : Vec Ideal S8x24x384 .f32) (h : d ix0 = 1#1) : frozen d C Y = C := by
  funext i
  pointwise [frozen]
  rw [h]; rfl
theorem frozen_of_unset (d : IVec S_ 1) (C Y : Vec Ideal S8x24x384 .f32) (h : d ix0 = 0#1) : frozen d C Y = Y := by
  funext i
  pointwise [frozen]
  rw [h]; rfl

theorem finished_iff (d : IVec S_ 1) (e : Vec Ideal S_ .f32) :
    finished d e ix0 = 1#1 ↔ d ix0 = 1#1 ∨ e ix0 ≤ Ideal.ofBits .f32 0x358637BD#32 := by
  rw [← ole_iff]
  have h : ∀ p q : BitVec 1, IntOp.ori p q = 1#1 ↔ p = 1#1 ∨ q = 1#1 := by decide
  exact h _ _

end Cert.ReferenceIdeal.Km

end
-- ==== Proof.V.Rows.lean ====
/-
  The reference's first centroids: the rows of the points that its table names.
-/
module

public import proofs.«01_k».proof.Proof.V.Arrays
public import proofs.«01_k».proof.Proof.V.RefOps

@[expose] public section

set_option maxRecDepth 16384

noncomputable section

namespace Cert.ReferenceIdeal.Km

open Cert.KMeans
open Cert.ReferenceIdeal Cert.ReferenceIdeal.Gen
open Idealize.ShloMosaic Idealize.ShloMosaic.TcCoe Idealize.ShloMosaic.Tactic
open Idealize.ShloMosaic.StableHlo

/-! ## The vectors -/

/-- The table, as a column of row numbers. -/
def tableCol : IVec S8x24x1 32 := broadcastInDim S8x24x1 ![0, 1] bcast_S8x24_S8x24x1_0_1 fun i => lit0 (S8x24.rowMajor i)

/-- A column of row numbers, those below zero wrapped. -/
def wrap (w : IVec S8x24x1 32) : IVec S8x24x1 32 :=
  select (cmpi .slt w (broadcastInDim S8x24x1 ![] bcast_S_S8x24x1 (constantI S_ 32 0#32)))
    (addi w (broadcastInDim S8x24x1 ![] bcast_S_S8x24x1 (constantI S_ 32 4096#32))) w

/-- Whether each row number lies within the points. -/
def within (w : IVec S8x24x1 32) : IVec S8x24x1 1 :=
  andi (cmpi .sge w (broadcastInDim S8x24x1 ![] bcast_S_S8x24x1 (constantI S_ 32 0#32)))
    (cmpi .sle w (broadcastInDim S8x24x1 ![0, 1, 2] bcast_S1x1x1_S8x24x1_0_1_2 (broadcastInDim S1x1x1 ![2] bcast_S1_S1x1x1_2 (constantI S1 32 4095#32))))

/-- Whether all the numbers of a row do. -/
def allWithin (q : IVec S8x24x1 1) : IVec S8x24 1 := Host.reduce IntOp.andi q (constantI S_ 1 1#1) reducesTo_S8x24x1_S8x24_d2 h_S_

/-- The rows of `X` at a column of row numbers, -/
def rowsAt (X : Vec Ideal S8x4096x384 .f32) (w : IVec S8x24x1 32) : Vec Ideal S8x24x384 .f32 :=
  Host.gather gather_S8x4096x384_S8x24x1_S8x24x384_2_1_0_0_1_2_11384 X w

/-- and those rows where a flag is set, a fixed word elsewhere. -/
def pickedBy (q : IVec S8x24 1) (X : Vec Ideal S8x4096x384 .f32) (w : IVec S8x24x1 32) : Vec Ideal S8x24x384 .f32 :=
  select (broadcastInDim S8x24x384 ![0, 1] bcast_S8x24_S8x24x384_0_1 q) (rowsAt X w)
    (broadcastInDim S8x24x384 ![] bcast_S_S8x24x384 (constant (F := Ideal) S_ .f32 0x7FC00000#32))

/-- The rows at a column of row numbers, wrapped and tested. -/
def picked (X : Vec Ideal S8x4096x384 .f32) (w : IVec S8x24x1 32) : Vec Ideal S8x24x384 .f32 :=
  pickedBy (allWithin (within (wrap w))) X (wrap w)

/-! ## The stretches compute them -/

section
variable (W : Valuation τ sig (Elt Ideal))

theorem pre0_points : after pre0 W (Proc.devRef .tc main_v0)
    = shapeCast S8x4096x384 (W (Proc.devRef .tc main_arg0)) shapeCasts_S8x64x64x384_S8x4096x384 := by
  after_results
  rfl
theorem pre0_table : after pre0 W (Proc.devRef .tc main_v1) = tableCol := by
  after_results
  rfl
/-- The operations that wrap the row numbers, those that test them, and those that pick the rows. -/
abbrev opsWrap : List (HloOp τ sig (Elt Ideal)) := pre1.take 7
abbrev opsTest : List (HloOp τ sig (Elt Ideal)) := (pre1.drop 7).take 10
abbrev opsPick : List (HloOp τ sig (Elt Ideal)) := (pre1.drop 7).drop 10

theorem wrap_eq : after opsWrap W (Proc.devRef .tc main_call0_v4) = wrap (W (Proc.devRef .tc main_v1)) := by
  simp only [opsWrap, pre1, List.take, List.drop]
  after_results
  rfl
theorem wrap_keep : after opsWrap W (Proc.devRef .tc main_v0) = W (Proc.devRef .tc main_v0) := by
  simp only [opsWrap, pre1, List.take, List.drop]
  after_results
theorem test_eq : after opsTest W (Proc.devRef .tc main_call0_v11) = allWithin (within (W (Proc.devRef .tc main_call0_v4))) := by
  simp only [opsTest, pre1, List.take, List.drop]
  after_results
  rfl
theorem test_keep : after opsTest W (Proc.devRef .tc main_v0) = W (Proc.devRef .tc main_v0)
    ∧ after opsTest W (Proc.devRef .tc main_call0_v4) = W (Proc.devRef .tc main_call0_v4) := by
  simp only [opsTest, pre1, List.take, List.drop]
  refine ⟨?_, ?_⟩ <;> after_results
theorem pick_eq : after opsPick W (Proc.devRef .tc main_v2)
    = pickedBy (W (Proc.devRef .tc main_call0_v11)) (W (Proc.devRef .tc main_v0)) (W (Proc.devRef .tc main_call0_v4)) := by
  simp only [opsPick, pre1, List.take, List.drop]
  after_results
  rfl
theorem pre1_rows : after pre1 W (Proc.devRef .tc main_v2) = picked (W (Proc.devRef .tc main_v0)) (W (Proc.devRef .tc main_v1)) := by
  have h : after pre1 W = after opsPick (after opsTest (after opsWrap W)) := rfl
  rw [h, pick_eq, test_eq, (test_keep _).1, (test_keep _).2, wrap_eq, wrap_keep]
  rfl
theorem pre2_norms : after pre2 W (Proc.devRef .tc main_v6_0) = norms (W (Proc.devRef .tc main_v0)) := by
  after_results
  rfl
theorem pre2_points : after pre2 W (Proc.devRef .tc main_v6_1) = W (Proc.devRef .tc main_v0) := by
  after_results
  rfl
theorem pre2_cents : after pre2 W (Proc.devRef .tc main_v6_4) = W (Proc.devRef .tc main_v2) := by
  after_results
  rfl
theorem pre2_flag : after pre2 W (Proc.devRef .tc main_v6_5) = constantI S_ 1 0#1 := by
  after_results
  rfl
end

/-! ## The vectors read at an index -/

theorem tableCol_apply (b : Fin 8) (k : Fin 24) (z : Fin 1) : tableCol (ix3 b k z) = lit0 (S8x24.rowMajor (ix2 b k)) := by
  pointwise [tableCol]

/-- The words of the table are row numbers. -/
theorem lit0_lt : ∀ i : Fin 192, (lit0 i).toNat < 4096 := by decide +kernel
/-- Both tables are the same. -/
theorem lit0_same : ∀ i : Fin 192, lit0 i = Cert.KernelIdeal.lit0 i := by decide +kernel

/-- A word below 4096 is not negative and lies within. -/
theorem word_facts (v : BitVec 32) (h : v.toNat < 4096) :
    IntOp.cmpi .slt v 0#32 = 0#1 ∧ IntOp.cmpi .sge v 0#32 = 1#1 ∧ IntOp.cmpi .sle v 4095#32 = 1#1 ∧ v.toInt.toNat = v.toNat := by
  have hi : v.toInt = (v.toNat : ℤ) := BitVec.toInt_eq_toNat_of_lt (by omega)
  have h0 : (0#32).toInt = 0 := by decide
  have h4 : (4095#32).toInt = 4095 := by decide
  refine ⟨?_, ?_, ?_, by rw [hi]; rfl⟩
  · show BitVec.ofBool (decide (v.toInt < (0#32).toInt)) = 0#1
    rw [decide_eq_false (by omega)]; rfl
  · show BitVec.ofBool (decide ((0#32).toInt ≤ v.toInt)) = 1#1
    rw [decide_eq_true (by omega)]; rfl
  · show BitVec.ofBool (decide (v.toInt ≤ (4095#32).toInt)) = 1#1
    rw [decide_eq_true (by omega)]; rfl

theorem wrap_apply (w : IVec S8x24x1 32) (i : S8x24x1.Idx) (h : (w i).toNat < 4096) : wrap w i = w i := by
  have e : wrap w i = Scalar.select (IntOp.cmpi .slt (w i) 0#32) (IntOp.addi (w i) 4096#32) (w i) := by
    pointwise [wrap]
  rw [e, (word_facts _ h).1]
  rfl

theorem within_apply (w : IVec S8x24x1 32) (i : S8x24x1.Idx) (h : (w i).toNat < 4096) : within w i = 1#1 := by
  have e : within w i = IntOp.andi (IntOp.cmpi .sge (w i) 0#32) (IntOp.cmpi .sle (w i) 4095#32) := by
    pointwise [within]
  rw [e, (word_facts _ h).2.1, (word_facts _ h).2.2.1]
  decide

theorem allWithin_of (q : IVec S8x24x1 1) (h : ∀ i, q i = 1#1) : allWithin q = fun _ => 1#1 := by
  funext j
  unfold allWithin
  rw [Host.reduce_eq_foldl, ← List.foldl_map (f := q) (g := IntOp.andi)]
  refine foldl_keeps IntOp.andi (fun p => p = 1#1) 1#1 (fun p q hp hq => by rw [hp, hq]; decide) (fun q hq => by rw [hq]; decide)
    (fun q hq => by rw [hq]; decide) _ _ rfl (fun p hp => ?_) (Or.inl rfl)
  obtain ⟨i, -, rfl⟩ := List.mem_map.mp hp
  exact h i

/-- The gather's dimensions. -/
abbrev rowDims : GatherDims S8x4096x384 S8x24x1 S8x24x384 := gather_S8x4096x384_S8x24x1_S8x24x384_2_1_0_0_1_2_11384

/-- The row number a result index reads. -/
theorem rowDims_siIdx (b : Fin 8) (k : Fin 24) (j : Fin 384) (q : Fin rowDims.startIndexMap.length) :
    rowDims.siIdx (ix3 b k j) q = ix3 b k 0 := by
  funext a
  refine Fin.ext ?_
  match a with
  | ⟨0, _⟩ => rfl
  | ⟨1, _⟩ => rfl
  | ⟨2, _⟩ =>
    have : q.val < 1 := q.isLt
    show q.val = 0
    omega

/-- Which of the operand's axes are batching axes, started by the row number, and copied whole. -/
theorem rowDims_axes :
    (∀ h, (⟨0, h⟩ : Fin S8x4096x384.rank) ∈ rowDims.operandBatchingDims ∧ (⟨0, h⟩ : Fin S8x4096x384.rank) ∉ rowDims.sKept)
    ∧ (∀ h, (⟨1, h⟩ : Fin S8x4096x384.rank) ∈ rowDims.startIndexMap ∧ (⟨1, h⟩ : Fin S8x4096x384.rank) ∉ rowDims.sKept
      ∧ (⟨1, h⟩ : Fin S8x4096x384.rank) ∉ rowDims.operandBatchingDims)
    ∧ (∀ h, (⟨2, h⟩ : Fin S8x4096x384.rank) ∉ rowDims.startIndexMap ∧ (⟨2, h⟩ : Fin S8x4096x384.rank) ∈ rowDims.sKept
      ∧ (⟨2, h⟩ : Fin S8x4096x384.rank) ∉ rowDims.operandBatchingDims) := by decide +kernel

theorem rowsAt_apply (X : Vec Ideal S8x4096x384 .f32) (w : IVec S8x24x1 32) (b : Fin 8) (k : Fin 24) (j : Fin 384)
    (n : Fin 4096) (h : (w (ix3 b k 0)).toInt.toNat = n.val) : rowsAt X w (ix3 b k j) = X (ix3 b n j) := by
  unfold rowsAt Host.gather
  refine congrArg X (funext fun a => Fin.ext ?_)
  show rowDims.start (ix3 b k j) w a + rowDims.batchCoord (ix3 b k j) a + rowDims.offCoord (ix3 b k j) a = (ix3 b n j a).val
  match a with
  | ⟨0, h0⟩ =>
    have e1 : rowDims.start (ix3 b k j) w ⟨0, h0⟩ = 0 := rowDims.start_batching _ _ _ (rowDims_axes.1 h0).1
    have e2 : rowDims.offCoord (ix3 b k j) ⟨0, h0⟩ = 0 := rowDims.offCoord_eq_zero _ _ (rowDims_axes.1 h0).2
    have e3 : rowDims.batchCoord (ix3 b k j) ⟨0, h0⟩ = b.val := by
      unfold GatherDims.batchCoord
      rw [dif_pos (rowDims_axes.1 h0).1]
      rfl
    rw [e1, e2, e3]
    exact Nat.zero_add _
  | ⟨1, h1⟩ =>
    have e1 : rowDims.start (ix3 b k j) w ⟨1, h1⟩ = min n.val 4095 := by
      unfold GatherDims.start
      rw [dif_pos (rowDims_axes.2.1 h1).1, rowDims_siIdx, h]
      rfl
    have e2 : rowDims.offCoord (ix3 b k j) ⟨1, h1⟩ = 0 := rowDims.offCoord_eq_zero _ _ (rowDims_axes.2.1 h1).2.1
    have e3 : rowDims.batchCoord (ix3 b k j) ⟨1, h1⟩ = 0 := rowDims.batchCoord_eq_zero _ _ (rowDims_axes.2.1 h1).2.2
    rw [e1, e2, e3]
    exact Nat.min_eq_left (by omega)
  | ⟨2, h2⟩ =>
    have e1 : rowDims.start (ix3 b k j) w ⟨2, h2⟩ = 0 := by
      unfold GatherDims.start
      exact dif_neg (rowDims_axes.2.2 h2).1
    have e2 : rowDims.offCoord (ix3 b k j) ⟨2, h2⟩ = j.val := by
      unfold GatherDims.offCoord
      rw [dif_pos (rowDims_axes.2.2 h2).2.1]
      rfl
    have e3 : rowDims.batchCoord (ix3 b k j) ⟨2, h2⟩ = 0 := rowDims.batchCoord_eq_zero _ _ (rowDims_axes.2.2 h2).2.2
    rw [e1, e2, e3]
    exact Nat.zero_add _

/-- The row of the points a table's word names. -/
def rowOf (b : Fin 8) (k : Fin 24) : Fin 4096 := ⟨(lit0 (S8x24.rowMajor (ix2 b k))).toNat, lit0_lt _⟩

theorem tableCol_lt (i : S8x24x1.Idx) : (tableCol i).toNat < 4096 := by
  obtain ⟨b, k, z, rfl⟩ : ∃ b k z, i = ix3 b k z := ⟨_, _, _, eq_ix3 i⟩
  rw [tableCol_apply]
  exact lit0_lt _

/-- THE FIRST CENTROIDS are the rows the table names. -/
theorem picked_apply (X : Vec Ideal S8x4096x384 .f32) (b : Fin 8) (k : Fin 24) (j : Fin 384) :
    picked X tableCol (ix3 b k j) = X (ix3 b (rowOf b k) j) := by
  have ew : wrap tableCol = tableCol := funext fun i => wrap_apply _ i (tableCol_lt i)
  have ea : allWithin (within tableCol) = fun _ => 1#1 := allWithin_of _ fun i => within_apply _ i (tableCol_lt i)
  have er : rowsAt X tableCol (ix3 b k j) = X (ix3 b (rowOf b k) j) := by
    refine rowsAt_apply X tableCol b k j (rowOf b k) ?_
    rw [tableCol_apply]
    exact (word_facts _ (lit0_lt _)).2.2.2
  unfold picked
  rw [ew, ea]
  refine Eq.trans ?_ er
  pointwise [pickedBy]

end Cert.ReferenceIdeal.Km

end
-- ==== Proof.V.Argmin.lean ====
/-
  The reference's search for the nearest centroid: a left fold over the pairs (distance, number) of one point, which ends
  at the first least distance.
-/
module

public import proofs.«01_k».proof.Proof.V.RefOps

@[expose] public section

set_option maxRecDepth 16384

noncomputable section

namespace Cert.ReferenceIdeal.Km

open Cert.KMeans
open Cert.ReferenceIdeal Cert.ReferenceIdeal.Gen
open Idealize.ShloMosaic Idealize.ShloMosaic.TcCoe Idealize.ShloMosaic.Tactic

/-- The search's step, as conditions. -/
theorem argmin_eq (x y : EReal) (v w : BitVec 32) : reducer_argmin_f32_i32 (F := Ideal) (x, v) (y, w)
    = (if x < y then x else y, if x < y ∨ x = y ∧ IntOp.cmpi .slt v w = 1#1 then v else w) := by
  have hb : ∀ b : BitVec 1, b = 0#1 ∨ b = 1#1 := by decide
  have hlt : FloatOps.cmpf (F := Ideal) (φ := .f32) .olt x y = if x < y then 1#1 else 0#1 := by
    by_cases h : x < y <;> simp [Ideal.cmpf_def, Ideal.cmp, h]
  have hne : FloatOps.cmpf (F := Ideal) (φ := .f32) .une x x = 0#1 := by simp [Ideal.cmpf_def, Ideal.cmp]
  have heq : FloatOps.cmpf (F := Ideal) (φ := .f32) .oeq x y = if x = y then 1#1 else 0#1 := by
    by_cases h : x = y <;> simp [Ideal.cmpf_def, Ideal.cmp, h]
  unfold reducer_argmin_f32_i32
  simp only [hlt, hne, heq]
  rcases hb (IntOp.cmpi .slt v w) with hs | hs <;> rw [hs] <;>
  by_cases h : x < y <;> by_cases h' : x = y <;> simp [h, h', IntOp.ori, IntOp.andi, Scalar.select]

theorem slt_word {a b : ℕ} (ha : a < 24) (hb : b < 24) : IntOp.cmpi .slt (BitVec.ofNat 32 a) (BitVec.ofNat 32 b) = 1#1 ↔ a < b := by
  have h : ∀ a b : Fin 24, IntOp.cmpi .slt (BitVec.ofNat 32 a.val) (BitVec.ofNat 32 b.val) = 1#1 ↔ a.val < b.val := by decide
  exact h ⟨a, ha⟩ ⟨b, hb⟩

/-- The step on numbered pairs. -/
theorem argmin_words (x y : EReal) {a b : ℕ} (ha : a < 24) (hb : b < 24) :
    reducer_argmin_f32_i32 (F := Ideal) (x, BitVec.ofNat 32 a) (y, BitVec.ofNat 32 b)
      = (if x < y then x else y, if x < y ∨ x = y ∧ a < b then BitVec.ofNat 32 a else BitVec.ofNat 32 b) := by
  rw [argmin_eq]
  simp only [slt_word ha hb]

/-- No earlier index than the first holds its value; a first least value of ⊤ is at 0. -/
theorem first_le {f : Fin 24 → EReal} {k i : Fin 24} (hk : First f k) (h : f k = f i) : k.val ≤ i.val := by
  by_contra hn
  exact (hk.2 i (not_le.mp hn)).ne h
theorem first_top {f : Fin 24 → EReal} {k : Fin 24} (hk : First f k) (h : f k = ⊤) : k.val ≤ 0 := by
  by_contra hn
  have := hk.2 0 (not_le.mp hn)
  rw [h] at this
  exact absurd this (not_lt.mpr le_top)

/-- The pairs the search meets: a greater distance, or the least one at or after number `k`. -/
def Behind (d : EReal) (k : ℕ) (p : EReal × BitVec 32) : Prop :=
  ∃ i : ℕ, i < 24 ∧ p.2 = BitVec.ofNat 32 i ∧ (d < p.1 ∨ d = p.1 ∧ k ≤ i)

theorem behind_step {d : EReal} {k : ℕ} {p q : EReal × BitVec 32} (hp : Behind d k p) (hq : Behind d k q) :
    Behind d k (reducer_argmin_f32_i32 (F := Ideal) p q) := by
  obtain ⟨x, v⟩ := p
  obtain ⟨y, w⟩ := q
  obtain ⟨i, hi, hv, hx⟩ := hp
  obtain ⟨j, hj, hw, hy⟩ := hq
  simp only at hv hw hx hy
  subst hv hw
  rw [argmin_words _ _ hi hj]
  by_cases h : x < y
  · rw [if_pos h, if_pos (Or.inl h)]; exact ⟨i, hi, rfl, hx⟩
  · rw [if_neg h]
    by_cases h' : x = y ∧ i < j
    · rw [if_pos (Or.inr h')]
      exact ⟨i, hi, rfl, h'.1 ▸ hx⟩
    · rw [if_neg (not_or.mpr ⟨h, h'⟩)]; exact ⟨j, hj, rfl, hy⟩

theorem best_left {d : EReal} {k : ℕ} (hk : k < 24) {q : EReal × BitVec 32} (hq : Behind d k q) :
    reducer_argmin_f32_i32 (F := Ideal) (d, BitVec.ofNat 32 k) q = (d, BitVec.ofNat 32 k) := by
  obtain ⟨y, w⟩ := q
  obtain ⟨j, hj, hw, hy⟩ := hq
  simp only at hw hy
  subst hw
  rw [argmin_words _ _ hk hj]
  rcases hy with hy | ⟨rfl, hy⟩
  · rw [if_pos hy, if_pos (Or.inl hy)]
  · rw [if_neg (lt_irrefl _)]
    rcases Nat.lt_or_eq_of_le hy with h | rfl
    · rw [if_pos (Or.inr ⟨rfl, h⟩)]
    · rw [if_neg]; rintro (h | h) <;> [exact lt_irrefl _ h; exact lt_irrefl _ h.2]

theorem best_right {d : EReal} {k : ℕ} (hk : k < 24) {q : EReal × BitVec 32} (hq : Behind d k q) :
    reducer_argmin_f32_i32 (F := Ideal) q (d, BitVec.ofNat 32 k) = (d, BitVec.ofNat 32 k) := by
  obtain ⟨y, w⟩ := q
  obtain ⟨j, hj, hw, hy⟩ := hq
  simp only at hw hy
  subst hw
  rw [argmin_words _ _ hj hk]
  rcases hy with hy | ⟨rfl, hy⟩
  · rw [if_neg (not_lt.mpr hy.le), if_neg]
    rintro (h | h) <;> [exact lt_asymm hy h; exact absurd h.1 hy.ne']
  · rw [if_neg (lt_irrefl _), if_neg]
    rintro (h | h) <;> [exact lt_irrefl _ h; exact absurd h.2 (not_lt.mpr hy)]

section Fiber
variable (D : Vec Ideal S8x4096x24 .f32) (b : Fin 8) (n : Fin 4096)

/-- An index of the distances drops its last coordinate. -/
theorem drop_eq (i : S8x4096x24.Idx) : Shape.ReducesTo.drop reducesTo_S8x4096x24_S8x4096_d2 i = ix2 (i 0) (i 1) := by
  funext a
  fin_cases a <;> rfl

theorem mem_fiber (p : EReal × BitVec 32)
    (h : p ∈ Host.argReduceFiber D (iotaInDim S8x4096x24 32 2) reducesTo_S8x4096x24_S8x4096_d2 (ix2 b n)) :
    ∃ k : Fin 24, p = (D (ix3 b n k), BitVec.ofNat 32 k.val) := by
  obtain ⟨r, hr, rfl⟩ := List.mem_map.mp h
  have hd := of_decide_eq_true (List.mem_filter.mp hr).2
  rw [drop_eq] at hd
  have e0 : (S8x4096x24.rowMajor.symm r) 0 = b := congrFun hd 0
  have e1 : (S8x4096x24.rowMajor.symm r) 1 = n := congrFun hd 1
  refine ⟨(S8x4096x24.rowMajor.symm r) 2, ?_⟩
  have e := eq_ix3 (S8x4096x24.rowMajor.symm r)
  rw [← e0, ← e1]
  exact Prod.ext (congrArg D e) rfl

theorem fiber_mem (k : Fin 24) :
    (D (ix3 b n k), BitVec.ofNat 32 k.val) ∈ Host.argReduceFiber D (iotaInDim S8x4096x24 32 2) reducesTo_S8x4096x24_S8x4096_d2 (ix2 b n) := by
  refine List.mem_map.mpr ⟨S8x4096x24.rowMajor (ix3 b n k), List.mem_filter.mpr ⟨List.mem_finRange _, decide_eq_true ?_⟩, ?_⟩
  · rw [Equiv.symm_apply_apply, drop_eq]; rfl
  · rw [Equiv.symm_apply_apply]; rfl

/-- THE NEAREST CENTROID'S NUMBER is the first of the least distance. -/
theorem nearest_apply (k : Fin 24) (hk : First (fun k => D (ix3 b n k)) k) : nearest D (ix2 b n) = BitVec.ofNat 32 k.val := by
  unfold nearest
  rw [Ideal.argReduce_eq_reduce2, Host.reduce2_eq_foldl_fiber]
  refine congrArg Prod.snd (foldl_keeps (reducer_argmin_f32_i32 (F := Ideal)) (Behind (D (ix3 b n k)) k.val) (D (ix3 b n k), BitVec.ofNat 32 k.val)
    (fun p q hp hq => behind_step hp hq) (fun q hq => best_left k.isLt hq) (fun q hq => best_right k.isLt hq) _ _ ?_ (fun p hp => ?_)
    (Or.inr (fiber_mem D b n k)))
  · refine ⟨0, by omega, rfl, ?_⟩
    show D (ix3 b n k) < Ideal.ofBits .f32 0x7F800000#32 ∨ D (ix3 b n k) = Ideal.ofBits .f32 0x7F800000#32 ∧ k.val ≤ 0
    rw [infinity]
    rcases lt_or_eq_of_le (le_top (a := (D (ix3 b n k) : EReal))) with h | h
    · exact Or.inl h
    · exact Or.inr ⟨h, first_top hk h⟩
  · obtain ⟨i, rfl⟩ := mem_fiber D b n p hp
    refine ⟨i.val, i.isLt, rfl, ?_⟩
    rcases lt_or_eq_of_le (hk.1 i) with h | h
    · exact Or.inl h
    · exact Or.inr ⟨h, first_le hk h⟩

end Fiber

end Cert.ReferenceIdeal.Km

end
-- ==== Proof.V.Ref.lean ====
/-
  The reference's loop: one trip moves the centroids by one step until it is finished, so after its twenty trips they are
  the centroids after the trip the iteration stops at.
-/
module

public import proofs.«01_k».proof.Proof.V.Rows
public import proofs.«01_k».proof.Proof.V.Argmin

@[expose] public section

set_option maxRecDepth 16384

noncomputable section

namespace Cert.ReferenceIdeal.Km

open Cert.KMeans
open Cert.ReferenceIdeal Cert.ReferenceIdeal.Gen
open Idealize.ShloMosaic Idealize.ShloMosaic.TcCoe Idealize.ShloMosaic.Tactic
open Idealize.ShloMosaic.StableHlo

/-! ## One trip's vectors -/

/-- The marks of the nearest centroids, -/
def marks (N : Vec Ideal S8x4096x1 .f32) (X : Vec Ideal S8x4096x384 .f32) (C : Vec Ideal S8x24x384 .f32) : Vec Ideal S8x4096x24 .f32 :=
  oneHot (nearest (dists N X C))
/-- and the centroids they move to. -/
def moveTo (N : Vec Ideal S8x4096x1 .f32) (X : Vec Ideal S8x4096x384 .f32) (C : Vec Ideal S8x24x384 .f32) : Vec Ideal S8x24x384 .f32 :=
  next (inhabited (marks N X C)) (means (marks N X C) X) C

theorem marks_apply (X : Vec Ideal S8x4096x384 .f32) (C : Vec Ideal S8x24x384 .f32) (b : Fin 8) (n : Fin 4096) (k : Fin 24) :
    marks (norms X) X C (ix3 b n k) = hot (ptsOf X b) (centsOf C b) n k := by
  obtain ⟨k₀, h₀⟩ := exists_first (KMeans.dist (ptsOf X b) (centsOf C b) n)
  have h₁ : First (fun k => dists (norms X) X C (ix3 b n k)) k₀ := by
    rw [show (fun k => dists (norms X) X C (ix3 b n k)) = KMeans.dist (ptsOf X b) (centsOf C b) n from
      funext fun k => dists_apply X C b n k]
    exact h₀
  unfold marks hot
  rw [oneHot_apply, nearest_apply _ b n k₀ h₁]
  by_cases hk : First (KMeans.dist (ptsOf X b) (centsOf C b) n) k
  · rw [if_pos hk, if_pos (by rw [hk.unique h₀])]
  · have hne : ¬ BitVec.ofNat 32 k₀.val = BitVec.ofNat 32 k.val := fun h => by
      obtain rfl : k₀ = k := ofNat_inj h
      exact hk h₀
    rw [if_neg hk, if_neg hne]

/-- ONE TRIP'S CENTROIDS are one step's. -/
theorem moveTo_apply (X : Vec Ideal S8x4096x384 .f32) (C : Vec Ideal S8x24x384 .f32) (b : Fin 8) (k : Fin 24) (j : Fin 384) :
    moveTo (norms X) X C (ix3 b k j) = step (ptsOf X b) (centsOf C b) k j := by
  have ec : (∑ n : Fin 4096, marks (norms X) X C (ix3 b n k)) = count (ptsOf X b) (centsOf C b) k :=
    Finset.sum_congr rfl fun n _ => marks_apply X C b n k
  have et : (∑ n : Fin 4096, marks (norms X) X C (ix3 b n k) * X (ix3 b n j)) = total (ptsOf X b) (centsOf C b) k j :=
    Finset.sum_congr rfl fun n _ => congrArg (· * X (ix3 b n j)) (marks_apply X C b n k)
  unfold moveTo step
  rw [next_apply, means_apply, ec, et]

/-- The average shift of one trip. -/
theorem shift_eq (X : Vec Ideal S8x4096x384 .f32) (C : Vec Ideal S8x24x384 .f32) :
    shiftOf (moveTo (norms X) X C) C ix0
      = Ideal.div (∑ b, moved (ptsOf X b) (centsOf C b)) (Ideal.ofBits .f32 0x43400000#32) := by
  rw [shiftOf_apply]
  refine congrArg (fun s => Ideal.div s (Ideal.ofBits .f32 0x43400000#32)) (Finset.sum_congr rfl fun b _ => ?_)
  unfold moved
  refine Finset.sum_congr rfl fun k _ => Finset.sum_congr rfl fun j _ => ?_
  rw [moveTo_apply]

/-! ## One trip's buffers -/

section
variable (W : Valuation τ sig (Elt Ideal))

theorem trip_cents : afterL bodyI (after condOps W) (Proc.devRef .tc main_v6_4)
    = frozen (W (Proc.devRef .tc main_v6_5)) (W (Proc.devRef .tc main_v6_4))
        (moveTo (W (Proc.devRef .tc main_v6_0)) (W (Proc.devRef .tc main_v6_1)) (W (Proc.devRef .tc main_v6_4))) := by
  simp only [afterL_cons, afterL_nil]
  rw [body7_cents, body6_eq, keep body5_writes _ main_v6_5 (by decide +kernel), keep body5_writes _ main_v6_4 (by decide +kernel),
    keep body5_writes _ main_while0b_v30 (by decide +kernel), body4_eq, keep body4_writes _ main_v6_5 (by decide +kernel),
    keep body4_writes _ main_v6_4 (by decide +kernel), body3_mask, body3_means, keep body3_writes _ main_v6_5 (by decide +kernel),
    keep body3_writes _ main_v6_4 (by decide +kernel), body2_eq, keep body2_writes _ main_v6_5 (by decide +kernel),
    keep body2_writes _ main_v6_4 (by decide +kernel), keep body2_writes _ main_v6_1 (by decide +kernel), body1_eq,
    keep body1_writes _ main_v6_5 (by decide +kernel), keep body1_writes _ main_v6_4 (by decide +kernel),
    keep body1_writes _ main_v6_1 (by decide +kernel), body0_eq, keep body0_writes _ main_v6_5 (by decide +kernel),
    keep body0_writes _ main_v6_4 (by decide +kernel), keep body0_writes _ main_v6_1 (by decide +kernel),
    keep condOps_writes _ main_v6_5 (by decide +kernel), keep condOps_writes _ main_v6_4 (by decide +kernel),
    keep condOps_writes _ main_v6_1 (by decide +kernel), keep condOps_writes _ main_v6_0 (by decide +kernel)]
  rfl

theorem trip_flag : afterL bodyI (after condOps W) (Proc.devRef .tc main_v6_5)
    = finished (W (Proc.devRef .tc main_v6_5))
        (shiftOf (moveTo (W (Proc.devRef .tc main_v6_0)) (W (Proc.devRef .tc main_v6_1)) (W (Proc.devRef .tc main_v6_4)))
          (W (Proc.devRef .tc main_v6_4))) := by
  simp only [afterL_cons, afterL_nil]
  rw [body7_flag, keep body6_writes _ main_v6_5 (by decide +kernel), keep body6_writes _ main_while0b_v35 (by decide +kernel), body5_eq,
    keep body5_writes _ main_v6_5 (by decide +kernel), body4_eq, keep body4_writes _ main_v6_5 (by decide +kernel),
    keep body4_writes _ main_v6_4 (by decide +kernel), body3_mask, body3_means, keep body3_writes _ main_v6_5 (by decide +kernel),
    keep body3_writes _ main_v6_4 (by decide +kernel), body2_eq, keep body2_writes _ main_v6_5 (by decide +kernel),
    keep body2_writes _ main_v6_4 (by decide +kernel), keep body2_writes _ main_v6_1 (by decide +kernel), body1_eq,
    keep body1_writes _ main_v6_5 (by decide +kernel), keep body1_writes _ main_v6_4 (by decide +kernel),
    keep body1_writes _ main_v6_1 (by decide +kernel), body0_eq, keep body0_writes _ main_v6_5 (by decide +kernel),
    keep body0_writes _ main_v6_4 (by decide +kernel), keep body0_writes _ main_v6_1 (by decide +kernel),
    keep condOps_writes _ main_v6_5 (by decide +kernel), keep condOps_writes _ main_v6_4 (by decide +kernel),
    keep condOps_writes _ main_v6_1 (by decide +kernel), keep condOps_writes _ main_v6_0 (by decide +kernel)]
  rfl

theorem trip_norms : afterL bodyI (after condOps W) (Proc.devRef .tc main_v6_0) = W (Proc.devRef .tc main_v6_0) := by
  simp only [afterL_cons, afterL_nil]
  rw [keep body7_writes _ main_v6_0 (by decide +kernel), keep body6_writes _ main_v6_0 (by decide +kernel),
    keep body5_writes _ main_v6_0 (by decide +kernel), keep body4_writes _ main_v6_0 (by decide +kernel),
    keep body3_writes _ main_v6_0 (by decide +kernel), keep body2_writes _ main_v6_0 (by decide +kernel),
    keep body1_writes _ main_v6_0 (by decide +kernel), keep body0_writes _ main_v6_0 (by decide +kernel),
    keep condOps_writes _ main_v6_0 (by decide +kernel)]

theorem trip_points : afterL bodyI (after condOps W) (Proc.devRef .tc main_v6_1) = W (Proc.devRef .tc main_v6_1) := by
  simp only [afterL_cons, afterL_nil]
  rw [keep body7_writes _ main_v6_1 (by decide +kernel), keep body6_writes _ main_v6_1 (by decide +kernel),
    keep body5_writes _ main_v6_1 (by decide +kernel), keep body4_writes _ main_v6_1 (by decide +kernel),
    keep body3_writes _ main_v6_1 (by decide +kernel), keep body2_writes _ main_v6_1 (by decide +kernel),
    keep body1_writes _ main_v6_1 (by decide +kernel), keep body0_writes _ main_v6_1 (by decide +kernel),
    keep condOps_writes _ main_v6_1 (by decide +kernel)]
end

/-! ## The loop -/

/-- The points' start of the iteration, of an array of points. -/
def starts (X : Vec Ideal S8x4096x384 .f32) (b : Fin 8) : Cents := fun k j => X (ix3 b (rowOf b k) j)

/-- What the loop's buffers hold before trip `k`. -/
structure Before (X : Vec Ideal S8x4096x384 .f32) (s k : ℕ) (N : Vec Ideal S8x4096x1 .f32) (Y : Vec Ideal S8x4096x384 .f32)
    (C : Vec Ideal S8x24x384 .f32) (d : IVec S_ 1) : Prop where
  /-- the norms are the points', -/
  norms_eq : N = norms X
  /-- the points are as given, -/
  points_eq : Y = X
  /-- the centroids are those after `k` steps, or after trip `s`'s once that is past, -/
  cents_eq : ∀ b, centsOf C b = traj (ptsOf X b) (starts X b) (min k (s + 1))
  /-- and the flag is set once a trip has settled. -/
  flag_iff : d ix0 = 1#1 ↔ ∃ t < k, Settled (ptsOf X) (starts X) t

/-- ONE TRIP takes what holds before trip `k` to what holds before the next. -/
theorem before_succ (X : Vec Ideal S8x4096x384 .f32) (s k : ℕ) (hs : Stop (Settled (ptsOf X) (starts X)) s) (hk : k < 20)
    (N : Vec Ideal S8x4096x1 .f32) (Y : Vec Ideal S8x4096x384 .f32) (C : Vec Ideal S8x24x384 .f32) (d : IVec S_ 1)
    (h : Before X s k N Y C d) :
    Before X s (k + 1) N Y (frozen d C (moveTo N Y C)) (finished d (shiftOf (moveTo N Y C) C)) := by
  obtain ⟨rfl, rfl, hc, hd⟩ := h
  obtain ⟨h20, hlt, hst⟩ := hs
  by_cases hks : k ≤ s
  · have hno : ¬ ∃ t < k, Settled (ptsOf Y) (starts Y) t := fun ⟨t, ht, hD⟩ => hlt t (by omega) hD
    have hd0 : d ix0 = 0#1 := by
      have hb : ∀ q : BitVec 1, q ≠ 1#1 → q = 0#1 := by decide
      exact hb _ fun e => hno (hd.mp e)
    have hck : ∀ b, centsOf C b = traj (ptsOf Y b) (starts Y b) k := fun b => by
      rw [hc b, Nat.min_eq_left (by omega)]
    refine ⟨rfl, rfl, fun b => ?_, ?_⟩
    · rw [frozen_of_unset _ _ _ hd0, Nat.min_eq_left (by omega)]
      funext i j
      show moveTo (norms Y) Y C (ix3 b i j) = step (ptsOf Y b) (traj (ptsOf Y b) (starts Y b) k) i j
      rw [moveTo_apply, hck]
    · have es : (∑ b, moved (ptsOf Y b) (centsOf C b)) = ∑ b, moved (ptsOf Y b) (traj (ptsOf Y b) (starts Y b) k) :=
        Finset.sum_congr rfl fun b _ => congrArg (moved (ptsOf Y b)) (hck b)
      rw [finished_iff, shift_eq, es]
      constructor
      · rintro (e | e)
        · exact absurd (hd.mp e) hno
        · exact ⟨k, by omega, e⟩
      · rintro ⟨t, ht, hD⟩
        rcases Nat.lt_succ_iff_lt_or_eq.mp ht with h' | rfl
        · exact absurd ⟨t, h', hD⟩ hno
        · exact Or.inr hD
  · have hD : Settled (ptsOf Y) (starts Y) s := hst.resolve_right (by omega)
    have hd1 : d ix0 = 1#1 := hd.mpr ⟨s, by omega, hD⟩
    refine ⟨rfl, rfl, fun b => ?_, ?_⟩
    · rw [frozen_of_set _ _ _ hd1, hc b, Nat.min_eq_right (by omega), Nat.min_eq_right (by omega)]
    · rw [finished_iff]
      exact ⟨fun _ => ⟨s, by omega, hD⟩, fun _ => Or.inl hd1⟩

section
variable (m : (ℓ : Loc nD τ sig) → Buf (Elt Ideal) ℓ) (c : Dev nD)

/-- The flattened argument. -/
def flat : Vec Ideal S8x4096x384 .f32 :=
  shapeCast S8x4096x384 (m ((c.tc : Thread nD τ).loc main_arg0)) shapeCasts_S8x64x64x384_S8x4096x384

/-- What holds before the first trip. -/
theorem before_zero (s : ℕ) : Before (flat m c) s 0 (atK m 0 c (Proc.devRef .tc main_v6_0)) (atK m 0 c (Proc.devRef .tc main_v6_1))
    (atK m 0 c (Proc.devRef .tc main_v6_4)) (atK m 0 c (Proc.devRef .tc main_v6_5)) := by
  rw [show atK m 0 c = entryContents preI m c from rfl]
  simp only [entryContents, afterL_cons, afterL_nil]
  rw [pre2_norms, pre2_points, pre2_cents, pre2_flag, pre1_rows, keep pre1_writes _ main_v0 (by decide +kernel), pre0_table, pre0_points]
  refine ⟨rfl, rfl, fun b => funext fun k => funext fun j => picked_apply _ b k j, ?_⟩
  constructor
  · intro h
    exact absurd (show (0#1 : BitVec 1) = 1#1 from h) (by decide)
  · rintro ⟨t, ht, -⟩
    exact absurd ht (Nat.not_lt_zero t)

/-- What holds before each trip. -/
theorem before_trip (s : ℕ) (hs : Stop (Settled (ptsOf (flat m c)) (starts (flat m c))) s) : ∀ k ≤ 20,
    Before (flat m c) s k (atK m k c (Proc.devRef .tc main_v6_0)) (atK m k c (Proc.devRef .tc main_v6_1))
      (atK m k c (Proc.devRef .tc main_v6_4)) (atK m k c (Proc.devRef .tc main_v6_5))
  | 0, _ => before_zero m c s
  | k + 1, hk => by
    have h := before_succ (flat m c) s k hs (by omega) _ _ _ _ (before_trip s hs k (by omega))
    rw [show atK m (k + 1) c = afterL bodyI (after condOps (atK m k c)) from rfl, trip_norms, trip_points, trip_cents, trip_flag]
    exact h

/-- THE RESULT. -/
theorem result_eq : atK m 20 c (Proc.devRef .tc main_v6_4)
    = fun y : S8x24x384.Idx => final (ptsOf (flat m c)) (starts (flat m c)) (y 0) (y 1) (y 2) := by
  have hs := (exists_stop (Settled (ptsOf (flat m c)) (starts (flat m c)))).choose_spec
  have h := (before_trip m c _ hs 20 le_rfl).cents_eq
  rw [Nat.min_eq_right (by have := hs.1; omega)] at h
  funext y
  obtain ⟨b, k, j, rfl⟩ : ∃ b k j, y = ix3 b k j := ⟨_, _, _, eq_ix3 y⟩
  exact congrFun (congrFun (h b) k) j
end

end Cert.ReferenceIdeal.Km

end
-- ==== Proof.Value.lean ====
/-
  The kernel and the reference compute the same centroids.
-/
module

public import proofs.«01_k».proof.Defs
public import proofs.«01_k».proof.Proof.V.Result
public import proofs.«01_k».proof.Proof.V.Ref

@[expose] public section

set_option maxRecDepth 16384

noncomputable section

namespace Cert.Value

open Cert.KMeans
open Idealize.ShloMosaic Idealize.ShloMosaic.TcCoe

/-- Both programs start the iteration at the same rows. -/
theorem starts_eq (X : Vec Ideal Cert.KernelIdeal.S8x4096x384 .f32) :
    Cert.ReferenceIdeal.Km.starts X = Cert.KernelIdeal.Km.seeds X := by
  funext b k j
  refine congrArg (fun n : Fin 4096 => X (ix3 b n j)) (Fin.ext ?_)
  have h := congrArg BitVec.toNat (Cert.ReferenceIdeal.Km.lit0_same (Cert.ReferenceIdeal.S8x24.rowMajor (ix2 b k)))
  exact h

/-- Run on the same argument, the kernel and the reference both end with the centroids after the trip the iteration stops
    at, their arguments unchanged. -/
theorem algebraic : Cert.algebraic_KernelIdeal_ReferenceIdeal := by
  intro m g m' g' _ harg
  refine ⟨fun c => fun y : Cert.KernelIdeal.S8x24x384.Idx =>
      final (Cert.KernelIdeal.Km.points (Cert.KernelIdeal.Km.flat m c)) (Cert.KernelIdeal.Km.seeds (Cert.KernelIdeal.Km.flat m c)) (y 0) (y 1) (y 2), ?_, ?_⟩
  · exact (θ_run _ _ _).mono (fun r h c => ⟨(h.1 c).1.trans (Cert.KernelIdeal.Km.result_eq m c), (h.1 c).2⟩)
      (Cert.KernelIdeal.Km.run_value m g)
  · refine (θ_run _ _ _).mono (fun r h c => ⟨(h.1 c).1.trans ((Cert.ReferenceIdeal.Km.result_eq m' c).trans ?_), (h.1 c).2⟩)
      (Cert.ReferenceIdeal.Km.run_value m' g')
    have hf : Cert.ReferenceIdeal.Km.flat m' c = Cert.KernelIdeal.Km.flat m c := by
      refine Eq.trans ?_ (Cert.KernelIdeal.Km.V_block m c).symm
      unfold Cert.ReferenceIdeal.Km.flat
      rw [harg c]
    rw [hf, starts_eq]
    rfl

end Cert.Value

end
-- ==== Proof.lean ====
/- The claim's proof: the three programs' frames, the named constant, and the agreement of the two idealized programs. -/
module

public import proofs.«01_k».proof.Defs
public import proofs.«01_k».proof.Proof.K.Launch
public import proofs.«01_k».proof.Proof.KI.Launch
public import proofs.«01_k».proof.Proof.RI.Run
public import proofs.«01_k».proof.Proof.Value
public import Idealize.ShloMosaic.Adequacy
public import Idealize.ShloMosaic.Init

@[expose] public section

noncomputable section

namespace Cert.Proof

open Idealize.ShloMosaic Idealize.SL.Sem

/-- The kernel ends with its argument unchanged and its counters zero. -/
theorem frame_k : Cert.quiescent_Kernel := fun m g _ => Cert.Kernel.Km.quiescent m g

/-- So does the idealized kernel. -/
theorem frame_ki : Cert.quiescent_KernelIdeal := fun m g _ => Cert.KernelIdeal.Km.quiescent m g

/-- So does the reference. -/
theorem frame_ri : Cert.quiescent_ReferenceIdeal := fun m g _ =>
  (θ_run _ _ _).mono (fun _ h => ⟨fun c => (h.1 c).2, h.2⟩) (Cert.ReferenceIdeal.Km.run_value m g)

/-- The named constant is 1/24, and its word is that number rounded. -/
theorem named : Cert.preserves_Kernel_KernelIdeal :=
  IdealRules.named_const.statement Cert.KernelIdeal.κ "inv_k" .f32 0x3D2AAAAB#32 ((24⁻¹ : ℝ) : EReal) rfl

/-- The whole claim. -/
theorem claim : Cert.Claim :=
  ⟨Cert.Kernel.Gen.facts, Cert.KernelIdeal.Gen.facts, Cert.ReferenceIdeal.Gen.facts,
    frame_k, frame_ki, frame_ri, named, Cert.Value.algebraic⟩

end Cert.Proof

end
